-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_InProjP (m : (ℓ : Loc Cert.InProjP.nD Cert.InProjP.τ Cert.InProjP.sig) → Buf (Elt Bits) ℓ) : Prop :=
  True

def Pre_InProjPIdeal (m : (ℓ : Loc Cert.InProjPIdeal.nD Cert.InProjPIdeal.τ Cert.InProjPIdeal.sig) → Buf (Elt Ideal) ℓ) : Prop :=
  True

def Pre_InProjPRefIdeal (m : (ℓ : Loc Cert.InProjPRefIdeal.nD Cert.InProjPRefIdeal.τ Cert.InProjPRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_InProjP [hInProjP : Cert.InProjP.Facts] : Prop :=
  ∀ (m : (ℓ : Loc Cert.InProjP.nD Cert.InProjP.τ Cert.InProjP.sig) → Buf (Elt Bits) ℓ) (g : Dev Cert.InProjP.nD → PrngReg), Pre_InProjP m →
    θ_run (Cert.InProjP.defs (F := Bits)) (onTc (τ := Cert.InProjP.τ) (Cert.InProjP.main (F := Bits))) ⟨m, fun _ => 0, g⟩ (fun r => (∀ c : Dev Cert.InProjP.nD,
      r.2.mem ((c.tc : Thread Cert.InProjP.nD Cert.InProjP.τ).loc Cert.InProjP.main_arg0) = m ((c.tc : Thread Cert.InProjP.nD Cert.InProjP.τ).loc Cert.InProjP.main_arg0)
      ∧ r.2.mem ((c.tc : Thread Cert.InProjP.nD Cert.InProjP.τ).loc Cert.InProjP.main_arg1) = m ((c.tc : Thread Cert.InProjP.nD Cert.InProjP.τ).loc Cert.InProjP.main_arg1)
      ∧ r.2.mem ((c.tc : Thread Cert.InProjP.nD Cert.InProjP.τ).loc Cert.InProjP.main_arg2) = m ((c.tc : Thread Cert.InProjP.nD Cert.InProjP.τ).loc Cert.InProjP.main_arg2))
      ∧ r.2.sem = fun _ => 0)

def quiescent_InProjPIdeal [hInProjPIdeal : Cert.InProjPIdeal.Facts] : Prop :=
  ∀ (m : (ℓ : Loc Cert.InProjPIdeal.nD Cert.InProjPIdeal.τ Cert.InProjPIdeal.sig) → Buf (Elt Ideal) ℓ) (g : Dev Cert.InProjPIdeal.nD → PrngReg), Pre_InProjPIdeal m →
    θ_run (Cert.InProjPIdeal.defs (F := Ideal)) (onTc (τ := Cert.InProjPIdeal.τ) (Cert.InProjPIdeal.main (F := Ideal))) ⟨m, fun _ => 0, g⟩ (fun r => (∀ c : Dev Cert.InProjPIdeal.nD,
      r.2.mem ((c.tc : Thread Cert.InProjPIdeal.nD Cert.InProjPIdeal.τ).loc Cert.InProjPIdeal.main_arg0) = m ((c.tc : Thread Cert.InProjPIdeal.nD Cert.InProjPIdeal.τ).loc Cert.InProjPIdeal.main_arg0)
      ∧ r.2.mem ((c.tc : Thread Cert.InProjPIdeal.nD Cert.InProjPIdeal.τ).loc Cert.InProjPIdeal.main_arg1) = m ((c.tc : Thread Cert.InProjPIdeal.nD Cert.InProjPIdeal.τ).loc Cert.InProjPIdeal.main_arg1)
      ∧ r.2.mem ((c.tc : Thread Cert.InProjPIdeal.nD Cert.InProjPIdeal.τ).loc Cert.InProjPIdeal.main_arg2) = m ((c.tc : Thread Cert.InProjPIdeal.nD Cert.InProjPIdeal.τ).loc Cert.InProjPIdeal.main_arg2))
      ∧ r.2.sem = fun _ => 0)

def quiescent_InProjPRefIdeal [hInProjPRefIdeal : Cert.InProjPRefIdeal.Facts] : Prop :=
  ∀ (m : (ℓ : Loc Cert.InProjPRefIdeal.nD Cert.InProjPRefIdeal.τ Cert.InProjPRefIdeal.sig) → Buf (Elt Ideal) ℓ) (g : Dev Cert.InProjPRefIdeal.nD → PrngReg), Pre_InProjPRefIdeal m →
    θ_run (Cert.InProjPRefIdeal.defs (F := Ideal)) (onTc (τ := Cert.InProjPRefIdeal.τ) (Cert.InProjPRefIdeal.main (F := Ideal))) ⟨m, fun _ => 0, g⟩ (fun r => (∀ c : Dev Cert.InProjPRefIdeal.nD,
      r.2.mem ((c.tc : Thread Cert.InProjPRefIdeal.nD Cert.InProjPRefIdeal.τ).loc Cert.InProjPRefIdeal.main_arg0) = m ((c.tc : Thread Cert.InProjPRefIdeal.nD Cert.InProjPRefIdeal.τ).loc Cert.InProjPRefIdeal.main_arg0)
      ∧ r.2.mem ((c.tc : Thread Cert.InProjPRefIdeal.nD Cert.InProjPRefIdeal.τ).loc Cert.InProjPRefIdeal.main_arg1) = m ((c.tc : Thread Cert.InProjPRefIdeal.nD Cert.InProjPRefIdeal.τ).loc Cert.InProjPRefIdeal.main_arg1)
      ∧ r.2.mem ((c.tc : Thread Cert.InProjPRefIdeal.nD Cert.InProjPRefIdeal.τ).loc Cert.InProjPRefIdeal.main_arg2) = m ((c.tc : Thread Cert.InProjPRefIdeal.nD Cert.InProjPRefIdeal.τ).loc Cert.InProjPRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v61) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_InProjP_InProjPIdeal : Prop :=
  True

def algebraic_InProjPIdeal_InProjPRefIdeal [hInProjPIdeal : Cert.InProjPIdeal.Facts] [hInProjPRefIdeal : Cert.InProjPRefIdeal.Facts] : Prop :=
  ∀ (m : (ℓ : Loc Cert.InProjPIdeal.nD Cert.InProjPIdeal.τ Cert.InProjPIdeal.sig) → Buf (Elt Ideal) ℓ) (g : Dev Cert.InProjPIdeal.nD → PrngReg)
    (m' : (ℓ : Loc Cert.InProjPRefIdeal.nD Cert.InProjPRefIdeal.τ Cert.InProjPRefIdeal.sig) → Buf (Elt Ideal) ℓ) (g' : Dev Cert.InProjPRefIdeal.nD → PrngReg), Pre_InProjPIdeal m →
    (∀ c : Dev Cert.InProjPIdeal.nD,
      m' ((c.tc : Thread Cert.InProjPRefIdeal.nD Cert.InProjPRefIdeal.τ).loc Cert.InProjPRefIdeal.main_arg0) = m ((c.tc : Thread Cert.InProjPIdeal.nD Cert.InProjPIdeal.τ).loc Cert.InProjPIdeal.main_arg0)
      ∧ m' ((c.tc : Thread Cert.InProjPRefIdeal.nD Cert.InProjPRefIdeal.τ).loc Cert.InProjPRefIdeal.main_arg1) = m ((c.tc : Thread Cert.InProjPIdeal.nD Cert.InProjPIdeal.τ).loc Cert.InProjPIdeal.main_arg1)
      ∧ m' ((c.tc : Thread Cert.InProjPRefIdeal.nD Cert.InProjPRefIdeal.τ).loc Cert.InProjPRefIdeal.main_arg2) = m ((c.tc : Thread Cert.InProjPIdeal.nD Cert.InProjPIdeal.τ).loc Cert.InProjPIdeal.main_arg2)) →
    ∃ (v0 : (c : Dev Cert.InProjPIdeal.nD) → Buf (Elt Ideal) ((c.tc : Thread Cert.InProjPIdeal.nD Cert.InProjPIdeal.τ).loc Cert.InProjPIdeal.main_v31_0)) (v1 : (c : Dev Cert.InProjPIdeal.nD) → Buf (Elt Ideal) ((c.tc : Thread Cert.InProjPIdeal.nD Cert.InProjPIdeal.τ).loc Cert.InProjPIdeal.main_v31_1)) (v2 : (c : Dev Cert.InProjPIdeal.nD) → Buf (Elt Ideal) ((c.tc : Thread Cert.InProjPIdeal.nD Cert.InProjPIdeal.τ).loc Cert.InProjPIdeal.main_v31_2)) (v3 : (c : Dev Cert.InProjPIdeal.nD) → Buf (Elt Ideal) ((c.tc : Thread Cert.InProjPIdeal.nD Cert.InProjPIdeal.τ).loc Cert.InProjPIdeal.main_v31_3)),
      θ_run (Cert.InProjPIdeal.defs (F := Ideal)) (onTc (τ := Cert.InProjPIdeal.τ) (Cert.InProjPIdeal.main (F := Ideal))) ⟨m, fun _ => 0, g⟩ (fun r => ∀ c : Dev Cert.InProjPIdeal.nD,
          r.2.mem ((c.tc : Thread Cert.InProjPIdeal.nD Cert.InProjPIdeal.τ).loc Cert.InProjPIdeal.main_v31_0) = v0 c
          ∧ r.2.mem ((c.tc : Thread Cert.InProjPIdeal.nD Cert.InProjPIdeal.τ).loc Cert.InProjPIdeal.main_v31_1) = v1 c
          ∧ r.2.mem ((c.tc : Thread Cert.InProjPIdeal.nD Cert.InProjPIdeal.τ).loc Cert.InProjPIdeal.main_v31_2) = v2 c
          ∧ r.2.mem ((c.tc : Thread Cert.InProjPIdeal.nD Cert.InProjPIdeal.τ).loc Cert.InProjPIdeal.main_v31_3) = v3 c
          ∧ r.2.mem ((c.tc : Thread Cert.InProjPIdeal.nD Cert.InProjPIdeal.τ).loc Cert.InProjPIdeal.main_arg0) = m ((c.tc : Thread Cert.InProjPIdeal.nD Cert.InProjPIdeal.τ).loc Cert.InProjPIdeal.main_arg0)
          ∧ r.2.mem ((c.tc : Thread Cert.InProjPIdeal.nD Cert.InProjPIdeal.τ).loc Cert.InProjPIdeal.main_arg1) = m ((c.tc : Thread Cert.InProjPIdeal.nD Cert.InProjPIdeal.τ).loc Cert.InProjPIdeal.main_arg1)
          ∧ r.2.mem ((c.tc : Thread Cert.InProjPIdeal.nD Cert.InProjPIdeal.τ).loc Cert.InProjPIdeal.main_arg2) = m ((c.tc : Thread Cert.InProjPIdeal.nD Cert.InProjPIdeal.τ).loc Cert.InProjPIdeal.main_arg2))
      ∧ θ_run (Cert.InProjPRefIdeal.defs (F := Ideal)) (onTc (τ := Cert.InProjPRefIdeal.τ) (Cert.InProjPRefIdeal.main (F := Ideal))) ⟨m', fun _ => 0, g'⟩ (fun r => ∀ c : Dev Cert.InProjPRefIdeal.nD,
          r.2.mem ((c.tc : Thread Cert.InProjPRefIdeal.nD Cert.InProjPRefIdeal.τ).loc Cert.InProjPRefIdeal.main_v79) = v0 c
          ∧ r.2.mem ((c.tc : Thread Cert.InProjPRefIdeal.nD Cert.InProjPRefIdeal.τ).loc Cert.InProjPRefIdeal.main_v80) = v1 c
          ∧ r.2.mem ((c.tc : Thread Cert.InProjPRefIdeal.nD Cert.InProjPRefIdeal.τ).loc Cert.InProjPRefIdeal.main_v82) = v2 c
          ∧ r.2.mem ((c.tc : Thread Cert.InProjPRefIdeal.nD Cert.InProjPRefIdeal.τ).loc Cert.InProjPRefIdeal.main_v84) = v3 c
          ∧ r.2.mem ((c.tc : Thread Cert.InProjPRefIdeal.nD Cert.InProjPRefIdeal.τ).loc Cert.InProjPRefIdeal.main_arg0) = m' ((c.tc : Thread Cert.InProjPRefIdeal.nD Cert.InProjPRefIdeal.τ).loc Cert.InProjPRefIdeal.main_arg0)
          ∧ r.2.mem ((c.tc : Thread Cert.InProjPRefIdeal.nD Cert.InProjPRefIdeal.τ).loc Cert.InProjPRefIdeal.main_arg1) = m' ((c.tc : Thread Cert.InProjPRefIdeal.nD Cert.InProjPRefIdeal.τ).loc Cert.InProjPRefIdeal.main_arg1)
          ∧ r.2.mem ((c.tc : Thread Cert.InProjPRefIdeal.nD Cert.InProjPRefIdeal.τ).loc Cert.InProjPRefIdeal.main_arg2) = m' ((c.tc : Thread Cert.InProjPRefIdeal.nD Cert.InProjPRefIdeal.τ).loc Cert.InProjPRefIdeal.main_arg2))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v33_0)) (v1 : (c : Dev Cert.InProjSIdeal.nD) → Buf (Elt Ideal) ((c.tc : Thread Cert.InProjSIdeal.nD Cert.InProjSIdeal.τ).loc Cert.InProjSIdeal.main_v33_1)) (v2 : (c : Dev Cert.InProjSIdeal.nD) → Buf (Elt Ideal) ((c.tc : Thread Cert.InProjSIdeal.nD Cert.InProjSIdeal.τ).loc Cert.InProjSIdeal.main_v33_2)) (v3 : (c : Dev Cert.InProjSIdeal.nD) → Buf (Elt Ideal) ((c.tc : Thread Cert.InProjSIdeal.nD Cert.InProjSIdeal.τ).loc Cert.InProjSIdeal.main_v33_3)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v33_0) = v0 c
          ∧ r.2.mem ((c.tc : Thread Cert.InProjSIdeal.nD Cert.InProjSIdeal.τ).loc Cert.InProjSIdeal.main_v33_1) = v1 c
          ∧ r.2.mem ((c.tc : Thread Cert.InProjSIdeal.nD Cert.InProjSIdeal.τ).loc Cert.InProjSIdeal.main_v33_2) = v2 c
          ∧ r.2.mem ((c.tc : Thread Cert.InProjSIdeal.nD Cert.InProjSIdeal.τ).loc Cert.InProjSIdeal.main_v33_3) = v3 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v81) = v0 c
          ∧ r.2.mem ((c.tc : Thread Cert.InProjSRefIdeal.nD Cert.InProjSRefIdeal.τ).loc Cert.InProjSRefIdeal.main_v82) = v1 c
          ∧ r.2.mem ((c.tc : Thread Cert.InProjSRefIdeal.nD Cert.InProjSRefIdeal.τ).loc Cert.InProjSRefIdeal.main_v84) = v2 c
          ∧ r.2.mem ((c.tc : Thread Cert.InProjSRefIdeal.nD Cert.InProjSRefIdeal.τ).loc Cert.InProjSRefIdeal.main_v86) = v3 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v18_0)) (v1 : (c : Dev Cert.OutProjIdeal.nD) → Buf (Elt Ideal) ((c.tc : Thread Cert.OutProjIdeal.nD Cert.OutProjIdeal.τ).loc Cert.OutProjIdeal.main_v18_1)) (v2 : (c : Dev Cert.OutProjIdeal.nD) → Buf (Elt Ideal) ((c.tc : Thread Cert.OutProjIdeal.nD Cert.OutProjIdeal.τ).loc Cert.OutProjIdeal.main_v18_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v18_0) = v0 c
          ∧ r.2.mem ((c.tc : Thread Cert.OutProjIdeal.nD Cert.OutProjIdeal.τ).loc Cert.OutProjIdeal.main_v18_1) = v1 c
          ∧ r.2.mem ((c.tc : Thread Cert.OutProjIdeal.nD Cert.OutProjIdeal.τ).loc Cert.OutProjIdeal.main_v18_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v33) = v0 c
          ∧ r.2.mem ((c.tc : Thread Cert.OutProjRefIdeal.nD Cert.OutProjRefIdeal.τ).loc Cert.OutProjRefIdeal.main_v47) = v1 c
          ∧ r.2.mem ((c.tc : Thread Cert.OutProjRefIdeal.nD Cert.OutProjRefIdeal.τ).loc Cert.OutProjRefIdeal.main_v49) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def Claim : Prop :=
  ∃ (hAttn : Cert.Attn.Facts) (hAttnIdeal : Cert.AttnIdeal.Facts) (hAttnRefIdeal : Cert.AttnRefIdeal.Facts) (hInProjP : Cert.InProjP.Facts) (hInProjPIdeal : Cert.InProjPIdeal.Facts) (hInProjPRefIdeal : Cert.InProjPRefIdeal.Facts) (hInProjS : Cert.InProjS.Facts) (hInProjSIdeal : Cert.InProjSIdeal.Facts) (hInProjSRefIdeal : Cert.InProjSRefIdeal.Facts) (hOutProj : Cert.OutProj.Facts) (hOutProjIdeal : Cert.OutProjIdeal.Facts) (hOutProjRefIdeal : Cert.OutProjRefIdeal.Facts) (hPre_attn_finite : Cert.Pre_attn_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_InProjP (hInProjP := hInProjP)
    ∧ quiescent_InProjPIdeal (hInProjPIdeal := hInProjPIdeal)
    ∧ quiescent_InProjPRefIdeal (hInProjPRefIdeal := hInProjPRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_InProjP_InProjPIdeal
    ∧ algebraic_InProjPIdeal_InProjPRefIdeal (hInProjPIdeal := hInProjPIdeal) (hInProjPRefIdeal := hInProjPRefIdeal)
    ∧ preserves_InProjS_InProjSIdeal
    ∧ algebraic_InProjSIdeal_InProjSRefIdeal (hInProjSIdeal := hInProjSIdeal) (hInProjSRefIdeal := hInProjSRefIdeal)
    ∧ preserves_OutProj_OutProjIdeal
    ∧ algebraic_OutProjIdeal_OutProjRefIdeal (hOutProjIdeal := hOutProjIdeal) (hOutProjRefIdeal := hOutProjRefIdeal)
-- ==== Pre_attn_finite.lean ====
abbrev S4x4096x512 : Shape := ⟨3, ![4, 4096, 512]⟩
abbrev S1x64 : Shape := ⟨2, ![1, 64]⟩
abbrev S1x128 : Shape := ⟨2, ![1, 128]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S4x4096x512 .f32) (main_arg1 : FVec F S4x4096x512 .f32) (main_arg2 : FVec F S4x4096x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Attn.lean ====
abbrev S4x4096x512 : Shape := ⟨3, ![4, 4096, 512]⟩
abbrev S1x64 : Shape := ⟨2, ![1, 64]⟩
abbrev S1x128 : Shape := ⟨2, ![1, 128]⟩
abbrev S1x512x128 : Shape := ⟨3, ![1, 512, 128]⟩
abbrev S512x1 : Shape := ⟨2, ![512, 1]⟩
abbrev S512x128 : Shape := ⟨2, ![512, 128]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 9
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4x4096x512, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x128, .f32⟩
  | .local _ .vmem, ⟨12, _⟩ => ⟨S1x512x128, .f32⟩
  | .local _ .vmem, ⟨13, _⟩ => ⟨S512x1, .f32⟩
  | .local _ .vmem, ⟨14, _⟩ => ⟨S512x1, .f32⟩
  | .local _ .vmem, ⟨15, _⟩ => ⟨S512x128, .f32⟩
  | .local _ .vmem, ⟨16, _⟩ => ⟨S512x1, .f32⟩
  | .local _ .vmem, ⟨17, _⟩ => ⟨S512x1, .f32⟩
  | .local _ .vmem, ⟨18, _⟩ => ⟨S512x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨4, ![4, 4, 8, 8], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== AttnIdeal.lean ====
variable {F : FTy → Type} [FloatOps F] [Named F]
def κ : String → Option EReal := fun
  | "mask" => some ⊥
  | _ => none
-- ==== AttnRefIdeal.lean ====
abbrev S4x4096x512 : Shape := ⟨3, ![4, 4096, 512]⟩
abbrev S1x64 : Shape := ⟨2, ![1, 64]⟩
abbrev S1x128 : Shape := ⟨2, ![1, 128]⟩
abbrev S4096 : Shape := ⟨1, ![4096]⟩
abbrev S64 : Shape := ⟨1, ![64]⟩
abbrev S_ : Shape := ⟨0, ![]⟩
abbrev S4x4096x4x2x64 : Shape := ⟨5, ![4, 4096, 4, 2, 64]⟩
abbrev S4x4096x4x128 : Shape := ⟨4, ![4, 4096, 4, 128]⟩
abbrev S4x4x2x4096x4096 : Shape := ⟨5, ![4, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S4096, .i32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4096x4x2x64, .f32⟩
  | .hbm, ⟨25, _⟩ => ⟨S4x4096x4x2x64, .f32⟩
  | .hbm, ⟨26, _⟩ => ⟨S4x4096x4x128, .f32⟩
  | .hbm, ⟨27, _⟩ => ⟨S4x4x2x4096x4096, .f32⟩
  | .hbm, ⟨28, _⟩ => ⟨S_, .f32⟩
  | .hbm, ⟨29, _⟩ => ⟨S4x4x2x4096x4096, .f32⟩
  | .hbm, ⟨30, _⟩ => ⟨S4x4x2x4096x4096, .f32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x4x2x4096x4096, .i1⟩
  | .hbm, ⟨39, _⟩ => ⟨S4x4x2x4096x4096, .f32⟩
  | .hbm, ⟨40, _⟩ => ⟨S4x4x2x4096x4096, .f32⟩
  | .hbm, ⟨41, _⟩ => ⟨S_, .f32⟩
  | .hbm, ⟨42, _⟩ => ⟨S4x4x2x4096, .f32⟩
  | .hbm, ⟨43, _⟩ => ⟨S_, .f32⟩
  | .hbm, ⟨44, _⟩ => ⟨S4x4x2x4096, .f32⟩
  | .hbm, ⟨45, _⟩ => ⟨S4x4x2x4096, .f32⟩
  | .hbm, ⟨46, _⟩ => ⟨S4x4x2x4096x1, .f32⟩
  | .hbm, ⟨47, _⟩ => ⟨S4x4x2x4096x4096, .f32⟩
  | .hbm, ⟨48, _⟩ => ⟨S4x4x2x4096x4096, .f32⟩
  | .hbm, ⟨49, _⟩ => ⟨S4x4x2x4096x4096, .f32⟩
  | .hbm, ⟨50, _⟩ => ⟨S_, .f32⟩
  | .hbm, ⟨51, _⟩ => ⟨S4x4x2x4096, .f32⟩
  | .hbm, ⟨52, _⟩ => ⟨S4x4x2x4096x1, .f32⟩
  | .hbm, ⟨53, _⟩ => ⟨S4x4x2x4096x4096, .f32⟩
  | .hbm, ⟨54, _⟩ => ⟨S4x4x2x4096x4096, .f32⟩
  | .hbm, ⟨55, _⟩ => ⟨S4x4x1x4096x4096, .f32⟩
  | .hbm, ⟨56, _⟩ => ⟨S4x4x4096x4096, .f32⟩
  | .hbm, ⟨57, _⟩ => ⟨S4x4x1x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S4x4x128x4096, .f32⟩
  | .hbm, ⟨63, _⟩ => ⟨S4x4096x4x128, .f32⟩
  | .hbm, ⟨64, _⟩ => ⟨S128, .f32⟩
  | .hbm, ⟨65, _⟩ => ⟨S4x4096x4x128, .f32⟩
  | .hbm, ⟨66, _⟩ => ⟨S_, .f32⟩
  | .hbm, ⟨67, _⟩ => ⟨S4x4096x4, .f32⟩
  | .hbm, ⟨68, _⟩ => ⟨S4x4096x4x1, .f32⟩
  | .hbm, ⟨69, _⟩ => ⟨S_, .f32⟩
  | .hbm, ⟨70, _⟩ => ⟨S4x4096x4x1, .f32⟩
  | .hbm, ⟨71, _⟩ => ⟨S4x4096x4x1, .f32⟩
  | .hbm, ⟨72, _⟩ => ⟨S_, .f32⟩
  | .hbm, ⟨73, _⟩ => ⟨S4x4096x4x1, .f32⟩
  | .hbm, ⟨74, _⟩ => ⟨S4x4096x4x1, .f32⟩
  | .hbm, ⟨75, _⟩ => ⟨S4x4096x4x1, .f32⟩
  | .hbm, ⟨76, _⟩ => ⟨S4x4096x4x128, .f32⟩
  | .hbm, ⟨77, _⟩ => ⟨S4x4096x4x128, .f32⟩
  | .hbm, ⟨78, _⟩ => ⟨S1x1x1x128, .f32⟩
  | .hbm, ⟨79, _⟩ => ⟨S4x4096x4x128, .f32⟩
  | .hbm, ⟨80, _⟩ => ⟨S4x4096x4x128, .f32⟩
  | .hbm, ⟨81, _⟩ => ⟨S_, .f32⟩
  | .hbm, ⟨82, _⟩ => ⟨S4x4096x4x128, .f32⟩
  | .hbm, ⟨83, _⟩ => ⟨S4x4096x4x128, .f32⟩
  | .hbm, ⟨84, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== InProjP.lean ====
abbrev S4x4096x1024 : Shape := ⟨3, ![4, 4096, 1024]⟩
abbrev S1x1024 : Shape := ⟨2, ![1, 1024]⟩
abbrev S1x1024x3328 : Shape := ⟨3, ![1, 1024, 3328]⟩
abbrev S16384x1024 : Shape := ⟨2, ![16384, 1024]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1024 : Shape := ⟨1, ![1024]⟩
abbrev S1024x3328 : Shape := ⟨2, ![1024, 3328]⟩
abbrev S16384x512 : Shape := ⟨2, ![16384, 512]⟩
abbrev S16384x1792 : Shape := ⟨2, ![16384, 1792]⟩
abbrev S256x1024 : Shape := ⟨2, ![256, 1024]⟩
abbrev S256x128 : Shape := ⟨2, ![256, 128]⟩
abbrev S256x512 : Shape := ⟨2, ![256, 512]⟩
abbrev S256x1792 : Shape := ⟨2, ![256, 1792]⟩
abbrev S256 : Shape := ⟨1, ![256]⟩
abbrev S256x1 : Shape := ⟨2, ![256, 1]⟩
abbrev S256x3328 : Shape := ⟨2, ![256, 3328]⟩

abbrev nBuf : Space → Nat
  | .hbm => 40
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3328, .f32⟩
  | .hbm, ⟨3, _⟩ => ⟨S16384x1024, .f32⟩
  | .hbm, ⟨4, _⟩ => ⟨S4096, .i32⟩
  | .hbm, ⟨5, _⟩ => ⟨S1x4096, .i32⟩
  | .hbm, ⟨6, _⟩ => ⟨S4x4096, .i32⟩
  | .hbm, ⟨7, _⟩ => ⟨S16384, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S1x16384x1x32, .f32⟩
  | .hbm, ⟨25, _⟩ => ⟨S1x16384x4x32, .f32⟩
  | .hbm, ⟨26, _⟩ => ⟨S16384x128, .f32⟩
  | .hbm, ⟨27, _⟩ => ⟨S16384x32, .f32⟩
  | .hbm, ⟨28, _⟩ => ⟨S16384x64, .f32⟩
  | .hbm, ⟨29, _⟩ => ⟨S1x16384x1x64, .f32⟩
  | .hbm, ⟨30, _⟩ => ⟨S1x16384x2x64, .f32⟩
  | .hbm, ⟨31, _⟩ => ⟨S16384x128, .f32⟩
  | .hbm, ⟨32, _⟩ => ⟨S1024, .f32⟩
  | .hbm, ⟨33, _⟩ => ⟨S1x1024, .f32⟩
  | .hbm, ⟨34, _⟩ => ⟨S1024x3328, .f32⟩
  | .hbm, ⟨35, _⟩ => ⟨S1024x3328, .bf16⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x1792, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3328, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1792, .f32⟩
  | .local _ .vmem, ⟨15, _⟩ => ⟨S256x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev main_v31_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjPRefIdeal.lean ====
abbrev S4x4096x1024 : Shape := ⟨3, ![4, 4096, 1024]⟩
abbrev S1x1024 : Shape := ⟨2, ![1, 1024]⟩
abbrev S1x1024x3328 : Shape := ⟨3, ![1, 1024, 3328]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3328 : Shape := ⟨2, ![1024, 3328]⟩
abbrev S4x4096x3328 : Shape := ⟨3, ![4, 4096, 3328]⟩
abbrev S4x4096x512 : Shape := ⟨3, ![4, 4096, 512]⟩
abbrev S4x4096x4x2x64 : Shape := ⟨5, ![4, 4096, 4, 2, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x1x32 : Shape := ⟨5, ![1, 4096, 1, 1, 32]⟩
abbrev S4x4096x4x2x32 : Shape := ⟨5, ![4, 4096, 4, 2, 32]⟩
abbrev S16384x512 : Shape := ⟨2, ![16384, 512]⟩
abbrev S4x4096x1792 : Shape := ⟨3, ![4, 4096, 1792]⟩
abbrev S16384x1792 : Shape := ⟨2, ![16384, 1792]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3328, .f32⟩
  | .hbm, ⟨3, _⟩ => ⟨S4096, .i32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x3328, .f32⟩
  | .hbm, ⟨22, _⟩ => ⟨S4x4096x3328, .f32⟩
  | .hbm, ⟨23, _⟩ => ⟨S4x4096x512, .f32⟩
  | .hbm, ⟨24, _⟩ => ⟨S4x4096x4x2x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S1x4096x1x1x32, .f32⟩
  | .hbm, ⟨41, _⟩ => ⟨S4096x32, .f32⟩
  | .hbm, ⟨42, _⟩ => ⟨S1x4096x1x1x32, .f32⟩
  | .hbm, ⟨43, _⟩ => ⟨S4x4096x4x2x32, .f32⟩
  | .hbm, ⟨44, _⟩ => ⟨S4x4096x4x2x32, .f32⟩
  | .hbm, ⟨45, _⟩ => ⟨S4x4096x4x2x32, .f32⟩
  | .hbm, ⟨46, _⟩ => ⟨S4x4096x4x2x32, .f32⟩
  | .hbm, ⟨47, _⟩ => ⟨S4x4096x4x2x32, .f32⟩
  | .hbm, ⟨48, _⟩ => ⟨S4x4096x4x2x32, .f32⟩
  | .hbm, ⟨49, _⟩ => ⟨S4x4096x4x2x32, .f32⟩
  | .hbm, ⟨50, _⟩ => ⟨S4x4096x4x2x32, .f32⟩
  | .hbm, ⟨51, _⟩ => ⟨S4x4096x4x2x32, .f32⟩
  | .hbm, ⟨52, _⟩ => ⟨S4x4096x4x2x32, .f32⟩
  | .hbm, ⟨53, _⟩ => ⟨S4x4096x4x2x32, .f32⟩
  | .hbm, ⟨54, _⟩ => ⟨S4x4096x4x2x32, .f32⟩
  | .hbm, ⟨55, _⟩ => ⟨S4x4096x4x2x64, .f32⟩
  | .hbm, ⟨56, _⟩ => ⟨S4x4096x512, .f32⟩
  | .hbm, ⟨57, _⟩ => ⟨S4x4096x4x2x64, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S4096, .f32⟩
  | .hbm, ⟨67, _⟩ => ⟨S4096x1, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S1x4096x1x1x32, .f32⟩
  | .hbm, ⟨74, _⟩ => ⟨S4096x32, .f32⟩
  | .hbm, ⟨75, _⟩ => ⟨S1x4096x1x1x32, .f32⟩
  | .hbm, ⟨76, _⟩ => ⟨S4x4096x4x2x32, .f32⟩
  | .hbm, ⟨77, _⟩ => ⟨S4x4096x4x2x32, .f32⟩
  | .hbm, ⟨78, _⟩ => ⟨S4x4096x4x2x32, .f32⟩
  | .hbm, ⟨79, _⟩ => ⟨S4x4096x4x2x32, .f32⟩
  | .hbm, ⟨80, _⟩ => ⟨S4x4096x4x2x32, .f32⟩
  | .hbm, ⟨81, _⟩ => ⟨S4x4096x4x2x32, .f32⟩
  | .hbm, ⟨82, _⟩ => ⟨S4x4096x4x2x32, .f32⟩
  | .hbm, ⟨83, _⟩ => ⟨S4x4096x4x2x32, .f32⟩
  | .hbm, ⟨84, _⟩ => ⟨S4x4096x4x2x32, .f32⟩
  | .hbm, ⟨85, _⟩ => ⟨S4x4096x4x2x32, .f32⟩
  | .hbm, ⟨86, _⟩ => ⟨S4x4096x4x2x32, .f32⟩
  | .hbm, ⟨87, _⟩ => ⟨S4x4096x4x2x32, .f32⟩
  | .hbm, ⟨88, _⟩ => ⟨S4x4096x4x2x64, .f32⟩
  | .hbm, ⟨89, _⟩ => ⟨S16384x512, .f32⟩
  | .hbm, ⟨90, _⟩ => ⟨S16384x512, .f32⟩
  | .hbm, ⟨91, _⟩ => ⟨S4x4096x512, .f32⟩
  | .hbm, ⟨92, _⟩ => ⟨S16384x512, .f32⟩
  | .hbm, ⟨93, _⟩ => ⟨S4x4096x1792, .f32⟩
  | .hbm, ⟨94, _⟩ => ⟨S16384x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩

abbrev nD : Nat := 1
abbrev τ : Topo := Topo.v7x

variable {F : FTy → Type} [FloatOps F]
-- ==== InProjS.lean ====
abbrev S128x8x1024 : Shape := ⟨3, ![128, 8, 1024]⟩
abbrev S1x1024 : Shape := ⟨2, ![1, 1024]⟩
abbrev S1x1024x3328 : Shape := ⟨3, ![1, 1024, 3328]⟩
abbrev S1024x1024 : Shape := ⟨2, ![1024, 1024]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x3328 : Shape := ⟨2, ![1024, 3328]⟩
abbrev S1024x512 : Shape := ⟨2, ![1024, 512]⟩
abbrev S1024x1792 : Shape := ⟨2, ![1024, 1792]⟩
abbrev S256x1024 : Shape := ⟨2, ![256, 1024]⟩
abbrev S256x128 : Shape := ⟨2, ![256, 128]⟩
abbrev S256x512 : Shape := ⟨2, ![256, 512]⟩
abbrev S256x1792 : Shape := ⟨2, ![256, 1792]⟩
abbrev S256 : Shape := ⟨1, ![256]⟩
abbrev S256x1 : Shape := ⟨2, ![256, 1]⟩
abbrev S256x3328 : Shape := ⟨2, ![256, 3328]⟩

abbrev nBuf : Space → Nat
  | .hbm => 43
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x3328, .f32⟩
  | .hbm, ⟨3, _⟩ => ⟨S1024x1024, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x8, .i32⟩
  | .hbm, ⟨9, _⟩ => ⟨S128x8, .i32⟩
  | .hbm, ⟨10, _⟩ => ⟨S1024, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1024, .f32⟩
  | .hbm, ⟨20, _⟩ => ⟨S1024x1, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x32, .f32⟩
  | .hbm, ⟨26, _⟩ => ⟨S1024x32, .f32⟩
  | .hbm, ⟨27, _⟩ => ⟨S1x1024x1x32, .f32⟩
  | .hbm, ⟨28, _⟩ => ⟨S1x1024x4x32, .f32⟩
  | .hbm, ⟨29, _⟩ => ⟨S1024x128, .f32⟩
  | .hbm, ⟨30, _⟩ => ⟨S1024x32, .f32⟩
  | .hbm, ⟨31, _⟩ => ⟨S1024x64, .f32⟩
  | .hbm, ⟨32, _⟩ => ⟨S1x1024x1x64, .f32⟩
  | .hbm, ⟨33, _⟩ => ⟨S1x1024x2x64, .f32⟩
  | .hbm, ⟨34, _⟩ => ⟨S1024x128, .f32⟩
  | .hbm, ⟨35, _⟩ => ⟨S1024, .f32⟩
  | .hbm, ⟨36, _⟩ => ⟨S1x1024, .f32⟩
  | .hbm, ⟨37, _⟩ => ⟨S1024x3328, .f32⟩
  | .hbm, ⟨38, _⟩ => ⟨S1024x3328, .bf16⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x1792, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3328, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1792, .f32⟩
  | .local _ .vmem, ⟨15, _⟩ => ⟨S256x1792, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjSRefIdeal.lean ====
abbrev S128x8x1024 : Shape := ⟨3, ![128, 8, 1024]⟩
abbrev S1x1024 : Shape := ⟨2, ![1, 1024]⟩
abbrev S1x1024x3328 : Shape := ⟨3, ![1, 1024, 3328]⟩
abbrev S8 : Shape := ⟨1, ![8]⟩
abbrev S_ : Shape := ⟨0, ![]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x3328 : Shape := ⟨2, ![1024, 3328]⟩
abbrev S128x8x3328 : Shape := ⟨3, ![128, 8, 3328]⟩
abbrev S128x8x512 : Shape := ⟨3, ![128, 8, 512]⟩
abbrev S128x8x4x2x64 : Shape := ⟨5, ![128, 8, 4, 2, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x1x32 : Shape := ⟨5, ![1, 8, 1, 1, 32]⟩
abbrev S128x8x4x2x32 : Shape := ⟨5, ![128, 8, 4, 2, 32]⟩
abbrev S1024x512 : Shape := ⟨2, ![1024, 512]⟩
abbrev S128x8x1792 : Shape := ⟨3, ![128, 8, 1792]⟩
abbrev S1024x1792 : Shape := ⟨2, ![1024, 1792]⟩

abbrev nBuf : Space → Nat
  | .hbm => 98
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x3328, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1024, .f32⟩
  | .hbm, ⟨8, _⟩ => ⟨S128x8x1024, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x1024, .f32⟩
  | .hbm, ⟨20, _⟩ => ⟨S128x8x1024, .f32⟩
  | .hbm, ⟨21, _⟩ => ⟨S1x1x1024, .f32⟩
  | .hbm, ⟨22, _⟩ => ⟨S128x8x1024, .f32⟩
  | .hbm, ⟨23, _⟩ => ⟨S128x8x1024, .f32⟩
  | .hbm, ⟨24, _⟩ => ⟨S1024x3328, .f32⟩
  | .hbm, ⟨25, _⟩ => ⟨S128x8x3328, .f32⟩
  | .hbm, ⟨26, _⟩ => ⟨S128x8x512, .f32⟩
  | .hbm, ⟨27, _⟩ => ⟨S128x8x4x2x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8, .f32⟩
  | .hbm, ⟨37, _⟩ => ⟨S8x1, .f32⟩
  | .hbm, ⟨38, _⟩ => ⟨S1x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S8x32, .f32⟩
  | .hbm, ⟨43, _⟩ => ⟨S1x8x1x1x32, .f32⟩
  | .hbm, ⟨44, _⟩ => ⟨S8x32, .f32⟩
  | .hbm, ⟨45, _⟩ => ⟨S1x8x1x1x32, .f32⟩
  | .hbm, ⟨46, _⟩ => ⟨S128x8x4x2x32, .f32⟩
  | .hbm, ⟨47, _⟩ => ⟨S128x8x4x2x32, .f32⟩
  | .hbm, ⟨48, _⟩ => ⟨S128x8x4x2x32, .f32⟩
  | .hbm, ⟨49, _⟩ => ⟨S128x8x4x2x32, .f32⟩
  | .hbm, ⟨50, _⟩ => ⟨S128x8x4x2x32, .f32⟩
  | .hbm, ⟨51, _⟩ => ⟨S128x8x4x2x32, .f32⟩
  | .hbm, ⟨52, _⟩ => ⟨S128x8x4x2x32, .f32⟩
  | .hbm, ⟨53, _⟩ => ⟨S128x8x4x2x32, .f32⟩
  | .hbm, ⟨54, _⟩ => ⟨S128x8x4x2x32, .f32⟩
  | .hbm, ⟨55, _⟩ => ⟨S128x8x4x2x32, .f32⟩
  | .hbm, ⟨56, _⟩ => ⟨S128x8x4x2x32, .f32⟩
  | .hbm, ⟨57, _⟩ => ⟨S128x8x4x2x32, .f32⟩
  | .hbm, ⟨58, _⟩ => ⟨S128x8x4x2x64, .f32⟩
  | .hbm, ⟨59, _⟩ => ⟨S128x8x512, .f32⟩
  | .hbm, ⟨60, _⟩ => ⟨S128x8x4x2x64, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S8, .f32⟩
  | .hbm, ⟨70, _⟩ => ⟨S8x1, .f32⟩
  | .hbm, ⟨71, _⟩ => ⟨S1x32, .f32⟩
  | .hbm, ⟨72, _⟩ => ⟨S8x32, .f32⟩
  | .hbm, ⟨73, _⟩ => ⟨S8x32, .f32⟩
  | .hbm, ⟨74, _⟩ => ⟨S8x32, .f32⟩
  | .hbm, ⟨75, _⟩ => ⟨S8x32, .f32⟩
  | .hbm, ⟨76, _⟩ => ⟨S1x8x1x1x32, .f32⟩
  | .hbm, ⟨77, _⟩ => ⟨S8x32, .f32⟩
  | .hbm, ⟨78, _⟩ => ⟨S1x8x1x1x32, .f32⟩
  | .hbm, ⟨79, _⟩ => ⟨S128x8x4x2x32, .f32⟩
  | .hbm, ⟨80, _⟩ => ⟨S128x8x4x2x32, .f32⟩
  | .hbm, ⟨81, _⟩ => ⟨S128x8x4x2x32, .f32⟩
  | .hbm, ⟨82, _⟩ => ⟨S128x8x4x2x32, .f32⟩
  | .hbm, ⟨83, _⟩ => ⟨S128x8x4x2x32, .f32⟩
  | .hbm, ⟨84, _⟩ => ⟨S128x8x4x2x32, .f32⟩
  | .hbm, ⟨85, _⟩ => ⟨S128x8x4x2x32, .f32⟩
  | .hbm, ⟨86, _⟩ => ⟨S128x8x4x2x32, .f32⟩
  | .hbm, ⟨87, _⟩ => ⟨S128x8x4x2x32, .f32⟩
  | .hbm, ⟨88, _⟩ => ⟨S128x8x4x2x32, .f32⟩
  | .hbm, ⟨89, _⟩ => ⟨S128x8x4x2x32, .f32⟩
  | .hbm, ⟨90, _⟩ => ⟨S128x8x4x2x32, .f32⟩
  | .hbm, ⟨91, _⟩ => ⟨S128x8x4x2x64, .f32⟩
  | .hbm, ⟨92, _⟩ => ⟨S1024x512, .f32⟩
  | .hbm, ⟨93, _⟩ => ⟨S1024x512, .f32⟩
  | .hbm, ⟨94, _⟩ => ⟨S128x8x512, .f32⟩
  | .hbm, ⟨95, _⟩ => ⟨S1024x512, .f32⟩
  | .hbm, ⟨96, _⟩ => ⟨S128x8x1792, .f32⟩
  | .hbm, ⟨97, _⟩ => ⟨S1024x1792, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024x1024 : Shape := ⟨2, ![1024, 1024]⟩
abbrev S1024 : Shape := ⟨1, ![1024]⟩
abbrev S1024x2048 : Shape := ⟨2, ![1024, 2048]⟩
abbrev S16384x2048 : Shape := ⟨2, ![16384, 2048]⟩
abbrev S256x1024 : Shape := ⟨2, ![256, 1024]⟩
abbrev S256x512 : Shape := ⟨2, ![256, 512]⟩
abbrev S256x2048 : Shape := ⟨2, ![256, 2048]⟩
abbrev S512x1024 : Shape := ⟨2, ![512, 1024]⟩
abbrev S256 : Shape := ⟨1, ![256]⟩
abbrev S256x1 : Shape := ⟨2, ![256, 1]⟩

abbrev nBuf : Space → Nat
  | .hbm => 48
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2048, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .f32⟩
  | .hbm, ⟨35, _⟩ => ⟨S512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S1024x1024, .f32⟩
  | .hbm, ⟨40, _⟩ => ⟨S1024x1024, .bf16⟩
  | .hbm, ⟨41, _⟩ => ⟨S1024, .f32⟩
  | .hbm, ⟨42, _⟩ => ⟨S1x1024, .f32⟩
  | .hbm, ⟨43, _⟩ => ⟨S1024x2048, .f32⟩
  | .hbm, ⟨44, _⟩ => ⟨S1024x2048, .bf16⟩
  | .hbm, ⟨45, _⟩ => ⟨S16384x1024, .f32⟩
  | .hbm, ⟨46, _⟩ => ⟨S16384x1024, .f32⟩
  | .hbm, ⟨47, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x2048, .f32⟩
  | .local _ .vmem, ⟨21, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18_0 : Ref sig .tc := ⟨.hbm, 45, rfl⟩
abbrev main_v18_1 : Ref sig .tc := ⟨.hbm, 46, rfl⟩
abbrev main_v18_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjRefIdeal.lean ====
abbrev S16384x1024 : Shape := ⟨2, ![16384, 1024]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2048, .f32⟩
  | .hbm, ⟨10, _⟩ => ⟨S16384x8x64, .f32⟩
  | .hbm, ⟨11, _⟩ => ⟨S_, .f32⟩
  | .hbm, ⟨12, _⟩ => ⟨S16384x8, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x64, .f32⟩
  | .hbm, ⟨18, _⟩ => ⟨S16384x8x64, .f32⟩
  | .hbm, ⟨19, _⟩ => ⟨S16384x8x64, .f32⟩
  | .hbm, ⟨20, _⟩ => ⟨S_, .f32⟩
  | .hbm, ⟨21, _⟩ => ⟨S16384x8, .f32⟩
  | .hbm, ⟨22, _⟩ => ⟨S16384x8x1, .f32⟩
  | .hbm, ⟨23, _⟩ => ⟨S_, .f32⟩
  | .hbm, ⟨24, _⟩ => ⟨S16384x8x1, .f32⟩
  | .hbm, ⟨25, _⟩ => ⟨S16384x8x1, .f32⟩
  | .hbm, ⟨26, _⟩ => ⟨S16384x8x64, .f32⟩
  | .hbm, ⟨27, _⟩ => ⟨S16384x8x64, .f32⟩
  | .hbm, ⟨28, _⟩ => ⟨S_, .f32⟩
  | .hbm, ⟨29, _⟩ => ⟨S16384x8x1, .f32⟩
  | .hbm, ⟨30, _⟩ => ⟨S16384x8x1, .f32⟩
  | .hbm, ⟨31, _⟩ => ⟨S16384x8x1, .f32⟩
  | .hbm, ⟨32, _⟩ => ⟨S16384x8x64, .f32⟩
  | .hbm, ⟨33, _⟩ => ⟨S16384x8x64, .f32⟩
  | .hbm, ⟨34, _⟩ => ⟨S16384x512, .f32⟩
  | .hbm, ⟨35, _⟩ => ⟨S512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x1024, .f32⟩
  | .hbm, ⟨46, _⟩ => ⟨S1024x1024, .f32⟩
  | .hbm, ⟨47, _⟩ => ⟨S16384x1024, .f32⟩
  | .hbm, ⟨48, _⟩ => ⟨S16384x1024, .f32⟩
  | .hbm, ⟨49, _⟩ => ⟨S1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S1024x2048, .f32⟩
  | .hbm, ⟨67, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.AttnStep.lean ====
module
public import proofs.«01_k».proof.Proof.Gen.AttnIdeal.Frame
public import proofs.«01_k».proof.Proof.Gen.AttnIdeal.Skeleton
public import Idealize.ShloMosaic.Lib.VecWindow
@[expose] public section
set_option maxRecDepth 16384
/-! The attention's body, point by point: the conditions of its branches over the grid, its buffers, and what a point
leaves in the running maxima, the denominators and the numerators of the two maps, and in the output block. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 3).val) 0#32)) 0#32) = 1#1
/-- It holds at the points ≡ 0 (mod 8). -/
theorem hcond0_0 : ∀ t : Fin cfg0.N, cond0_0 (grid0.coords t) ↔ t.val % 8 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 64 % 4 := Pipeline.Grid.coords_val t 1 (by decide) rfl
    have e2 : (grid0.coords t 2).val = t.val / 8 % 8 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 8 = 0)

/-- The condition of the body's `scf.if` 1 (`k0_h2`), from the grid coordinates. -/
abbrev cond0_1 (i : grid0.Coords) : Prop := (Scalar.cmpi .ne (Scalar.extui (Scalar.cmpi .sle (BitVec.ofNat 32 (i 3).val) (BitVec.ofNat 32 (i 2).val))) 0#32) = 1#1
/-- It holds at the points whose coordinates have i3 ≤ i2. -/
theorem hcond0_1 : ∀ t : Fin cfg0.N, cond0_1 (grid0.coords t) ↔ t.val % 8 ≤ t.val / 8 % 8 :=
  (by decide +kernel : ∀ t : Fin grid0.N, cond0_1 (grid0.coords t) ↔ t.val % 8 ≤ t.val / 8 % 8)

/-- The condition of the body's `scf.if` 2 (`k0_h3`), from the grid coordinates. -/
abbrev cond0_2 (i : grid0.Coords) : Prop := k0_cond3 i = 1#1
/-- It holds at the points whose coordinates have i2 = i3. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)

/-! ## The input windows are live at every point -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Each window's current staging memref at point `t`, spelled as the pipeline passes it (`bodyAt0`), and its wholeness. -/
abbrev ms0_0 (t : Fin cfg0.N) : Memref sig .tc .vmem S1x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x128 .f32 := Memref.whole cc0_scratch2
abbrev scM0_3 : Memref sig .tc .vmem S512x1 .f32 := Memref.whole cc0_scratch3
abbrev scM0_4 : Memref sig .tc .vmem S512x1 .f32 := Memref.whole cc0_scratch4
abbrev scM0_5 : Memref sig .tc .vmem S512x128 .f32 := Memref.whole cc0_scratch5
/-- What the launch hands the region, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## What a point computes -/

/-- What the kernel carries from point to point: for each of the two maps the running maximum, the denominator and the
numerator of every row of the block. -/
structure Scr (F : FTy → Type) where
  m1 : Vec F S512x1 .f32
  l1 : Vec F S512x1 .f32
  a1 : Vec F S512x128 .f32
  m2 : Vec F S512x1 .f32
  l2 : Vec F S512x1 .f32
  a2 : Vec F S512x128 .f32

/-- The carried buffers as a row of blocks starts. -/
def start : Scr F := ⟨k0_pay1, k0_pay2, k0_pay3, k0_pay4, k0_pay5, k0_pay6⟩

/-- The carried buffers after one block of keys `x1` and values `x2` against the block of queries `x0`. -/
def upd (A B : BitVec 32) (x0 x1 x2 : Vec F S1x512x128 .f32) (s : Scr F) : Scr F :=
  ⟨k0_pay22 (k0_pay17 A B x0 x1 s.m1),
    k0_pay20 (k0_pay16 A B x0 x1) (k0_pay17 A B x0 x1 s.m1) (k0_pay18 A B x0 x1 s.m1) s.l1,
    k0_pay21 (k0_pay14 x2) (k0_pay16 A B x0 x1) (k0_pay17 A B x0 x1 s.m1) (k0_pay18 A B x0 x1 s.m1) s.a1,
    k0_pay9 (k0_pay24 (k0_pay12 x0) (k0_pay13 x1) (k0_pay15 A B) s.m2),
    k0_pay7 (k0_pay26 (k0_pay12 x0) (k0_pay13 x1) (k0_pay15 A B) s.m2) (k0_pay27 (k0_pay12 x0) (k0_pay13 x1) (k0_pay15 A B) s.m2 s.l2),
    k0_pay8 (k0_pay14 x2) (k0_pay25 (k0_pay12 x0) (k0_pay13 x1) (k0_pay15 A B) s.m2) (k0_pay26 (k0_pay12 x0) (k0_pay13 x1) (k0_pay15 A B) s.m2) s.a2⟩

/-- The output block, from the carried buffers after the diagonal block. -/
def fin (x3 x4 x5 x6 : Vec F S1x64 .f32) (x7 : Vec F S1x128 .f32) (s : Scr F) : Vec F S1x512x128 .f32 :=
  k0_pay10 (k0_pay28 x3 x4 x5 x6 s.a1 s.l1 s.a2 s.l2) x7 (k0_pay29 x3 x4 x5 x6 s.a1 s.l1 s.a2 s.l2)

open Classical in
/-- The carried buffers after the body at the point of coordinates `i`. -/
def next (i : grid0.Coords) (x0 x1 x2 : Vec F S1x512x128 .f32) (s : Scr F) : Scr F :=
  if cond0_1 i then upd (BitVec.ofNat 32 (i 2).val) (BitVec.ofNat 32 (i 3).val) x0 x1 x2 (if cond0_0 i then start else s) else s

open Classical in
/-- The output block after that point. -/
def nextOut (i : grid0.Coords) (x3 x4 x5 x6 : Vec F S1x64 .f32) (x7 : Vec F S1x128 .f32) (s : Scr F)
    (o : Vec F S1x512x128 .f32) : Vec F S1x512x128 .f32 :=
  if cond0_2 i then fin x3 x4 x5 x6 x7 s else o

/-- The carried buffers owned at the contents `s`. -/
def scrOwns (c : Dev nD) (arg13 : Memref sig .tc .vmem S512x1 .f32) (arg14 : Memref sig .tc .vmem S512x1 .f32)
    (arg15 : Memref sig .tc .vmem S512x128 .f32) (arg16 : Memref sig .tc .vmem S512x1 .f32)
    (arg17 : Memref sig .tc .vmem S512x1 .f32) (arg18 : Memref sig .tc .vmem S512x128 .f32) (s : Scr F) : sProp 𝕄 :=
  iprop(owns (c : Thread nD τ) arg13 fullShare s.m1 ∗ owns (c : Thread nD τ) arg14 fullShare s.l1
    ∗ owns (c : Thread nD τ) arg15 fullShare s.a1 ∗ owns (c : Thread nD τ) arg16 fullShare s.m2
    ∗ owns (c : Thread nD τ) arg17 fullShare s.l2 ∗ owns (c : Thread nD τ) arg18 fullShare s.a2)

/-! ## Loads and stores of a whole buffer, by shape -/

/-- A load of a whole buffer reads what the buffer holds. -/
theorem ld_1x512x128 (m : Memref sig .tc .vmem S1x512x128 .f32) (f : m.view.ty.Contents (Elt F)) :
    View.readAt (Elt F) m.view (Rect.unit ![0, 0, 0] ![1, 512, 128] inb_S1x512x128_S1x512x128_0_0_0).toLoadRect f = m.view.read (Elt F) f :=
  View.readAt_full m.view f inb_S1x512x128_S1x512x128_0_0_0
/-- A load of a whole buffer that was stored whole reads what was stored. -/
theorem lds_1x512x128 (m : Memref sig .tc .vmem S1x512x128 .f32) (f : m.view.ty.Contents (Elt F)) (w : FVec F S1x512x128 .f32)
    (L : List (View.Piece (Elt F) S1x512x128 .f32)) :
    View.readAt (Elt F) m.view (Rect.unit ![0, 0, 0] ![1, 512, 128] inb_S1x512x128_S1x512x128_0_0_0).toLoadRect (m.view.writes (Elt F) f (⟨(Rect.unit ![0, 0, 0] ![1, 512, 128] inb_S1x512x128_S1x512x128_0_0_0), w⟩ :: L)) = w :=
  View.readAt_writes_full m.view f inb_S1x512x128_S1x512x128_0_0_0 inb_S1x512x128_S1x512x128_0_0_0 w L
/-- A load of a whole buffer that was stored whole reads what was stored. -/
theorem ldc_1x512x128 (m : Memref sig .tc .vmem S1x512x128 .f32) (w : FVec F S1x512x128 .f32) (L : List (View.Piece (Elt F) S1x512x128 .f32)) :
    m.view.readCov (⟨(Rect.unit ![0, 0, 0] ![1, 512, 128] inb_S1x512x128_S1x512x128_0_0_0), w⟩ :: L) (Rect.unit ![0, 0, 0] ![1, 512, 128] inb_S1x512x128_S1x512x128_0_0_0).toLoadRect = w := by
  unfold View.readCov; exact lds_1x512x128 m _ w L
/-- A load of a whole buffer reads what the buffer holds. -/
theorem ld_1x64 (m : Memref sig .tc .vmem S1x64 .f32) (f : m.view.ty.Contents (Elt F)) :
    View.readAt (Elt F) m.view (Rect.unit ![0, 0] ![1, 64] inb_S1x64_S1x64_0_0).toLoadRect f = m.view.read (Elt F) f :=
  View.readAt_full m.view f inb_S1x64_S1x64_0_0
/-- A load of a whole buffer reads what the buffer holds. -/
theorem ld_1x128 (m : Memref sig .tc .vmem S1x128 .f32) (f : m.view.ty.Contents (Elt F)) :
    View.readAt (Elt F) m.view (Rect.unit ![0, 0] ![1, 128] inb_S1x128_S1x128_0_0).toLoadRect f = m.view.read (Elt F) f :=
  View.readAt_full m.view f inb_S1x128_S1x128_0_0
/-- A load of a whole buffer reads what the buffer holds. -/
theorem ld_512x1 (m : Memref sig .tc .vmem S512x1 .f32) (f : m.view.ty.Contents (Elt F)) :
    View.readAt (Elt F) m.view (Rect.unit ![0, 0] ![512, 1] inb_S512x1_S512x1_0_0).toLoadRect f = m.view.read (Elt F) f :=
  View.readAt_full m.view f inb_S512x1_S512x1_0_0
/-- A load of a whole buffer that was stored whole reads what was stored. -/
theorem lds_512x1 (m : Memref sig .tc .vmem S512x1 .f32) (f : m.view.ty.Contents (Elt F)) (w : FVec F S512x1 .f32)
    (L : List (View.Piece (Elt F) S512x1 .f32)) :
    View.readAt (Elt F) m.view (Rect.unit ![0, 0] ![512, 1] inb_S512x1_S512x1_0_0).toLoadRect (m.view.writes (Elt F) f (⟨(Rect.unit ![0, 0] ![512, 1] inb_S512x1_S512x1_0_0), w⟩ :: L)) = w :=
  View.readAt_writes_full m.view f inb_S512x1_S512x1_0_0 inb_S512x1_S512x1_0_0 w L
/-- A load of a whole buffer that was stored whole reads what was stored. -/
theorem ldc_512x1 (m : Memref sig .tc .vmem S512x1 .f32) (w : FVec F S512x1 .f32) (L : List (View.Piece (Elt F) S512x1 .f32)) :
    m.view.readCov (⟨(Rect.unit ![0, 0] ![512, 1] inb_S512x1_S512x1_0_0), w⟩ :: L) (Rect.unit ![0, 0] ![512, 1] inb_S512x1_S512x1_0_0).toLoadRect = w := by
  unfold View.readCov; exact lds_512x1 m _ w L
/-- A load of a whole buffer reads what the buffer holds. -/
theorem ld_512x128 (m : Memref sig .tc .vmem S512x128 .f32) (f : m.view.ty.Contents (Elt F)) :
    View.readAt (Elt F) m.view (Rect.unit ![0, 0] ![512, 128] inb_S512x128_S512x128_0_0).toLoadRect f = m.view.read (Elt F) f :=
  View.readAt_full m.view f inb_S512x128_S512x128_0_0
/-- A load of a whole buffer that was stored whole reads what was stored. -/
theorem lds_512x128 (m : Memref sig .tc .vmem S512x128 .f32) (f : m.view.ty.Contents (Elt F)) (w : FVec F S512x128 .f32)
    (L : List (View.Piece (Elt F) S512x128 .f32)) :
    View.readAt (Elt F) m.view (Rect.unit ![0, 0] ![512, 128] inb_S512x128_S512x128_0_0).toLoadRect (m.view.writes (Elt F) f (⟨(Rect.unit ![0, 0] ![512, 128] inb_S512x128_S512x128_0_0), w⟩ :: L)) = w :=
  View.readAt_writes_full m.view f inb_S512x128_S512x128_0_0 inb_S512x128_S512x128_0_0 w L
/-- A load of a whole buffer that was stored whole reads what was stored. -/
theorem ldc_512x128 (m : Memref sig .tc .vmem S512x128 .f32) (w : FVec F S512x128 .f32) (L : List (View.Piece (Elt F) S512x128 .f32)) :
    m.view.readCov (⟨(Rect.unit ![0, 0] ![512, 128] inb_S512x128_S512x128_0_0), w⟩ :: L) (Rect.unit ![0, 0] ![512, 128] inb_S512x128_S512x128_0_0).toLoadRect = w := by
  unfold View.readCov; exact lds_512x128 m _ w L

end Cert.AttnIdeal.Gen
-- ==== Proof.SoftRow.lean ====
module
public import Idealize.ShloMosaic.Lib.Pointwise
@[expose] public section
/-! Softmax of one row over the ideal floats: the running form, block after block, and the direct form. -/
namespace Cert.SoftRow
open Idealize.ShloMosaic

/-- The running maximum `m`, denominator `l` and one accumulator `a` of a row stand for the weights' sum `W` and the
    weighted sum `N`: nothing yet, or both scaled by the same real factor. -/
def Run (m l a : EReal) (W N : ℝ) : Prop :=
  (m = ⊥ ∧ l = 0 ∧ a = 0 ∧ W = 0 ∧ N = 0) ∨
    ∃ M : ℝ, m = (M : EReal) ∧ l = ((Real.exp (-M) * W : ℝ) : EReal) ∧ a = ((Real.exp (-M) * N : ℝ) : EReal)

/-- The weight of a score: its exponential where the mask allows it, and nothing elsewhere. -/
noncomputable def wt (c : Prop) [Decidable c] (s : ℝ) : ℝ := if c then Real.exp s else 0

/-- A row of real scores, masked with the least element, has a real maximum as soon as one score is allowed. -/
theorem fold_real {n : ℕ} (c : Fin n → Prop) [DecidablePred c] (s : Fin n → ℝ) (x : Fin n → EReal)
    (hx : ∀ j, x j = if c j then ((s j : ℝ) : EReal) else ⊥) (hc : ∃ j, c j) :
    ∃ M : ℝ, Finset.fold max (⊥ : EReal) x Finset.univ = (M : EReal) := by
  obtain ⟨j0, h0⟩ := hc
  have e : Finset.fold max (⊥ : EReal) x Finset.univ = Finset.univ.sup x := rfl
  obtain ⟨j, -, hj⟩ := Finset.exists_mem_eq_sup Finset.univ ⟨j0, Finset.mem_univ j0⟩ x
  by_cases h : c j
  · exact ⟨s j, by rw [e, hj, hx, if_pos h]⟩
  · have hle : x j0 ≤ Finset.univ.sup x := Finset.le_sup (Finset.mem_univ j0)
    rw [hj, hx j, if_neg h, hx j0, if_pos h0] at hle
    exact absurd (le_bot_iff.mp hle) (EReal.coe_ne_bot _)

/-- The exponential of a masked score under a real shift. -/
theorem exp_shift (c : Prop) [Decidable c] (s M : ℝ) :
    Ideal.exp ((if c then ((s : ℝ) : EReal) else ⊥) - (M : EReal)) = ((Real.exp (-M) * wt c s : ℝ) : EReal) := by
  unfold wt
  split_ifs with h
  · rw [← EReal.coe_sub, Ideal.exp_coe, ← Real.exp_add]
    congr 2
    ring
  · simp

/-- A finite sum of real numbers, taken in the extended reals. -/
theorem coe_sum {n : ℕ} (f : Fin n → ℝ) : (∑ j, ((f j : ℝ) : EReal)) = ((∑ j, f j : ℝ) : EReal) := by
  induction n with
  | zero => simp
  | succ n ih => rw [Fin.sum_univ_succ, Fin.sum_univ_succ, ih, EReal.coe_add]

/-- One block: the running state takes in the block's weights. -/
theorem Run.step {n : ℕ} {m l a : EReal} {W N : ℝ} (h : Run m l a W N) (c : Fin n → Prop) [DecidablePred c]
    (s v : Fin n → ℝ) (x : Fin n → EReal) (hx : ∀ j, x j = if c j then ((s j : ℝ) : EReal) else ⊥) (hc : ∃ j, c j)
    (m' : EReal) (hm' : m' = max m (Finset.fold max (⊥ : EReal) x Finset.univ)) :
    Run m' (Ideal.exp (m - m') * l + ∑ j, Ideal.exp (x j - m'))
      (Ideal.exp (m - m') * a + ∑ j, Ideal.exp (x j - m') * ((v j : ℝ) : EReal))
      (W + ∑ j, wt (c j) (s j)) (N + ∑ j, wt (c j) (s j) * v j) := by
  obtain ⟨M2, h2⟩ := fold_real c s x hx hc
  have key : ∀ M' : ℝ, (∑ j, Ideal.exp (x j - (M' : EReal)) = ((Real.exp (-M') * ∑ j, wt (c j) (s j) : ℝ) : EReal)) ∧
      (∑ j, Ideal.exp (x j - (M' : EReal)) * ((v j : ℝ) : EReal) =
        ((Real.exp (-M') * ∑ j, wt (c j) (s j) * v j : ℝ) : EReal)) := by
    intro M'
    constructor
    · rw [Finset.mul_sum, ← coe_sum]
      exact Finset.sum_congr rfl fun j _ => by rw [hx, exp_shift]
    · rw [Finset.mul_sum, ← coe_sum]
      exact Finset.sum_congr rfl fun j _ => by rw [hx, exp_shift, ← EReal.coe_mul, mul_assoc]
  rcases h with ⟨rfl, rfl, rfl, rfl, rfl⟩ | ⟨M, rfl, rfl, rfl⟩
  · have e : m' = (M2 : EReal) := by rw [hm', h2]; exact max_eq_right bot_le
    subst e
    refine Or.inr ⟨M2, rfl, ?_, ?_⟩
    · rw [(key M2).1]; simp
    · rw [(key M2).2]; simp
  · have e : m' = ((max M M2 : ℝ) : EReal) := by rw [hm', h2]; exact (EReal.coe_strictMono.monotone.map_max).symm
    generalize max M M2 = M' at e
    subst e
    have al : Ideal.exp ((M : EReal) - (M' : EReal)) = ((Real.exp (M - M') : ℝ) : EReal) := by
      rw [← EReal.coe_sub, Ideal.exp_coe]
    have ex : Real.exp (M - M') * Real.exp (-M) = Real.exp (-M') := by
      rw [← Real.exp_add]; congr 1; ring
    refine Or.inr ⟨M', rfl, ?_, ?_⟩
    · rw [(key M').1, al, ← EReal.coe_mul, ← EReal.coe_add, ← mul_assoc, ex, ← mul_add]
    · rw [(key M').2, al, ← EReal.coe_mul, ← EReal.coe_add, ← mul_assoc, ex, ← mul_add]

/-- A row's result: the weighted mean. -/
theorem Run.quot {m l a : EReal} {W N : ℝ} (h : Run m l a W N) (hW : 0 < W) :
    Ideal.div a l = ((N / W : ℝ) : EReal) := by
  rcases h with ⟨-, -, -, rfl, -⟩ | ⟨M, -, rfl, rfl⟩
  · exact absurd hW (lt_irrefl 0)
  · have hp : Real.exp (-M) * W ≠ 0 := (mul_pos (Real.exp_pos _) hW).ne'
    rw [Ideal.div_coe hp, ← EReal.coe_mul]
    congr 1
    field_simp

/-- Some weight allowed: the weights' sum is positive. -/
theorem wt_pos {n : ℕ} (c : Fin n → Prop) [DecidablePred c] (s : Fin n → ℝ) (hc : ∃ j, c j) :
    0 < ∑ j, wt (c j) (s j) := by
  obtain ⟨j0, h0⟩ := hc
  refine Finset.sum_pos' (fun j _ => ?_) ⟨j0, Finset.mem_univ _, ?_⟩
  · unfold wt; split_ifs
    · exact (Real.exp_pos _).le
    · exact le_rfl
  · unfold wt; rw [if_pos h0]; exact Real.exp_pos _

/-- The direct form: one entry of the softmax of a masked row. -/
theorem direct {n : ℕ} (c : Fin n → Prop) [DecidablePred c] (s : Fin n → ℝ) (x : Fin n → EReal)
    (hx : ∀ j, x j = if c j then ((s j : ℝ) : EReal) else ⊥) (hc : ∃ j, c j) (j : Fin n) :
    Ideal.div (Ideal.exp (x j - Finset.fold max (⊥ : EReal) x Finset.univ))
      (∑ i, Ideal.exp (x i - Finset.fold max (⊥ : EReal) x Finset.univ)) =
      ((wt (c j) (s j) / ∑ i, wt (c i) (s i) : ℝ) : EReal) := by
  obtain ⟨M, hM⟩ := fold_real c s x hx hc
  rw [hM]
  have e : ∀ i, Ideal.exp (x i - (M : EReal)) = ((Real.exp (-M) * wt (c i) (s i) : ℝ) : EReal) :=
    fun i => by rw [hx, exp_shift]
  have hs : ∑ i, Ideal.exp (x i - (M : EReal)) = ((Real.exp (-M) * ∑ i, wt (c i) (s i) : ℝ) : EReal) := by
    rw [Finset.mul_sum, ← coe_sum]
    exact Finset.sum_congr rfl fun i _ => e i
  have hW := wt_pos c s hc
  have hp : Real.exp (-M) * ∑ i, wt (c i) (s i) ≠ 0 := (mul_pos (Real.exp_pos _) hW).ne'
  rw [hs, e, Ideal.div_coe hp, ← EReal.coe_mul]
  congr 1
  field_simp

end Cert.SoftRow
-- ==== Proof.AttnMath.lean ====
module
public import proofs.«01_k».proof.Proof.SoftRow
@[expose] public section
/-! The differential attention of one head at one position, over the reals: what both the kernel and the reference are
shown to compute. -/
namespace Cert.AttnMath
open Idealize.ShloMosaic Cert.SoftRow

/-- An array of real numbers by batch, position and lane. -/
abbrev Arr := Fin 4 → Fin 4096 → Fin 512 → ℝ

/-- The lane of head `h`, map `c` and its own lane `d`. -/
def lane (h : Fin 4) (c : Fin 2) (d : Fin 64) : Fin 512 := ⟨128 * h.val + 64 * c.val + d.val, by omega⟩

/-- The lane of head `h` and value lane `e`. -/
def col (h : Fin 4) (e : Fin 128) : Fin 512 := ⟨128 * h.val + e.val, by omega⟩

/-- The score of query position `i` against key position `j` in map `c`. -/
noncomputable def score (Q K : Arr) (b h : Fin 4) (c : Fin 2) (i j : Fin 4096) : ℝ :=
  (∑ d : Fin 64, Q b i (lane h c d) * K b j (lane h c d)) * (1 / 8)

/-- The causal weight of key position `j`. -/
noncomputable def w (Q K : Arr) (b h : Fin 4) (c : Fin 2) (i j : Fin 4096) : ℝ := wt (j.val ≤ i.val) (score Q K b h c i j)

/-- The softmax's denominator. -/
noncomputable def den (Q K : Arr) (b h : Fin 4) (c : Fin 2) (i : Fin 4096) : ℝ := ∑ j, w Q K b h c i j

/-- The weighted sum of the values in lane `e`. -/
noncomputable def num (Q K V : Arr) (b h : Fin 4) (c : Fin 2) (i : Fin 4096) (e : Fin 128) : ℝ :=
  ∑ j, w Q K b h c i j * V b j (col h e)

/-- The first map's mean less `L` times the second's. -/
noncomputable def mix (Q K V : Arr) (L : ℝ) (b h : Fin 4) (i : Fin 4096) (e : Fin 128) : ℝ :=
  num Q K V b h 0 i e / den Q K b h 0 i - L * (num Q K V b h 1 i e / den Q K b h 1 i)

/-- The weight of the second map, from its four vectors. -/
noncomputable def lam (a1 b1 a2 b2 : Fin 64 → EReal) : EReal :=
  Ideal.exp (∑ d, a1 d * b1 d) - Ideal.exp (∑ d, a2 d * b2 d) + Ideal.ofBits FTy.f32 0x3E4CCCCD#32

/-- A head's output row, root-mean-square normalised, scaled by `g` and by the constant. -/
noncomputable def normed (o g : Fin 128 → EReal) (e : Fin 128) : EReal :=
  o e * Ideal.rsqrt (Ideal.div (∑ x, o x * o x) (Ideal.ofBits FTy.f32 0x43000000#32) +
    Ideal.ofBits FTy.f32 0x358637BD#32) * g e * Ideal.ofBits FTy.f32 0x3F4CCCCD#32

theorem den_pos (Q K : Arr) (b h : Fin 4) (c : Fin 2) (i : Fin 4096) : 0 < den Q K b h c i :=
  wt_pos (fun j : Fin 4096 => j.val ≤ i.val) _ ⟨i, le_rfl⟩

/-- The constant of the scores. -/
theorem eighth : Ideal.ofBits FTy.f32 0x3E000000#32 = ((1 / 8 : ℝ) : EReal) := by
  simp [Ideal.ofBits, Ideal.ieee]
  rw [← EReal.coe_mul]
  congr 1
  norm_num

/-- The added constant of `lam` is a real number. -/
theorem fifth : ∃ r : ℝ, Ideal.ofBits FTy.f32 0x3E4CCCCD#32 = ((r : ℝ) : EReal) := by
  refine ⟨13421773 / 67108864, ?_⟩
  simp [Ideal.ofBits, Ideal.ieee]
  rw [← EReal.coe_mul]
  congr 1
  norm_num

/-- Of real vectors, `lam` is a real number. -/
theorem lam_real (a1 b1 a2 b2 : Fin 64 → ℝ) : ∃ L : ℝ, lam (fun d => ((a1 d : ℝ) : EReal)) (fun d => ((b1 d : ℝ) : EReal))
    (fun d => ((a2 d : ℝ) : EReal)) (fun d => ((b2 d : ℝ) : EReal)) = ((L : ℝ) : EReal) := by
  obtain ⟨r, hr⟩ := fifth
  refine ⟨Real.exp (∑ d, a1 d * b1 d) - Real.exp (∑ d, a2 d * b2 d) + r, ?_⟩
  unfold lam
  simp only [← EReal.coe_mul, coe_sum, Ideal.exp_coe, hr, ← EReal.coe_sub, ← EReal.coe_add]

/-- A function of positions continued by zero. -/
noncomputable def ext (f : Fin 4096 → ℝ) (j : ℕ) : ℝ := if h : j < 4096 then f ⟨j, h⟩ else 0

/-- The sum over the first `n` positions. -/
noncomputable def upto (f : Fin 4096 → ℝ) (n : ℕ) : ℝ := ∑ j ∈ Finset.range n, ext f j

theorem upto_zero (f : Fin 4096 → ℝ) : upto f 0 = 0 := by simp [upto]

/-- One more block of 512 positions. -/
theorem upto_block (f : Fin 4096 → ℝ) (k : ℕ) (hk : k < 8) :
    upto f (512 * (k + 1)) = upto f (512 * k) + ∑ c : Fin 512, f ⟨512 * k + c.val, by omega⟩ := by
  unfold upto
  rw [show 512 * (k + 1) = 512 * k + 512 by omega, Finset.sum_range_add, Finset.sum_range (n := 512)]
  congr 1
  refine Finset.sum_congr rfl fun c _ => ?_
  unfold ext
  rw [dif_pos (by omega)]

/-- Positions past `n` adding nothing, the first `n` are all. -/
theorem upto_all (f : Fin 4096 → ℝ) (n : ℕ) (hn : n ≤ 4096) (hz : ∀ j : Fin 4096, n ≤ j.val → f j = 0) :
    upto f n = ∑ j, f j := by
  have e : upto f n = upto f 4096 := by
    refine Finset.sum_subset (by intro x hx; simp only [Finset.mem_range] at *; omega) fun x hx hx' => ?_
    simp only [Finset.mem_range] at hx hx'
    unfold ext
    rw [dif_pos hx]
    exact hz _ (by simp only; omega)
  rw [e]
  unfold upto
  rw [Finset.sum_range]
  exact Finset.sum_congr rfl fun j _ => by unfold ext; rw [dif_pos j.isLt]

/-- A sum over 128 lanes of which the first 64 count. -/
theorem low_half (f : Fin 128 → ℝ) : (∑ x : Fin 128, if x.val < 64 then f x else 0) = ∑ d : Fin 64, f ⟨d.val, by omega⟩ := by
  rw [show (∑ x : Fin 128, if x.val < 64 then f x else 0) = ∑ x : Fin (64 + 64), if x.val < 64 then f x else 0 from rfl,
    Fin.sum_univ_add]
  simp
  rfl

/-- A sum over 128 lanes of which the last 64 count. -/
theorem high_half (f : Fin 128 → ℝ) :
    (∑ x : Fin 128, if x.val < 64 then 0 else f x) = ∑ d : Fin 64, f ⟨64 + d.val, by omega⟩ := by
  rw [show (∑ x : Fin 128, if x.val < 64 then 0 else f x) = ∑ x : Fin (64 + 64), if x.val < 64 then 0 else f x from rfl,
    Fin.sum_univ_add]
  simp
  rfl

end Cert.AttnMath
-- ==== Proof.AttnRows.lean ====
module
public import proofs.«01_k».proof.Proof.AttnStep
public import proofs.«01_k».proof.Proof.AttnMath
public import Idealize.ShloMosaic.Lib.Pointwise
public import Idealize.ShloMosaic.Lib.WordCmp
@[expose] public section
namespace Cert.AttnIdeal.Rows
open Cert.AttnIdeal Cert.AttnIdeal.Gen Idealize.ShloMosaic Idealize.ShloMosaic.TcCoe Idealize.SL.Sem
set_option maxRecDepth 16384
/-! The payloads of the attention's body, read at a row, over the ideal floats. -/

/-- A small number's word, read as a signed one. -/
theorem toInt_small (n : ℕ) (h : n < 2 ^ 31) : (BitVec.ofNat 32 n).toInt = (n : ℤ) := by
  exact WordCmp.toInt_ofNat_of_lt h

/-- Position within a block, block index times 512: no wrap. -/
theorem pos_word (r k : ℕ) (hr : r < 512) (hk : k < 8) :
    IntOp.addi (BitVec.ofNat 32 r) (Scalar.muli (BitVec.ofNat 32 k) 512#32) = BitVec.ofNat 32 (512 * k + r) := by
  show BitVec.ofNat 32 r + BitVec.ofNat 32 k * 512#32 = _
  apply BitVec.eq_of_toNat_eq
  simp only [BitVec.toNat_add, BitVec.toNat_mul, BitVec.toNat_ofNat]
  omega

/-- The mask at a row and a column: the key's position is not past the query's. -/
theorem mask_at (qi ki : ℕ) (hq : qi < 8) (hk : ki < 8) (r c : Fin 512) :
    k0_pay15 (BitVec.ofNat 32 qi) (BitVec.ofNat 32 ki) (ix2 r c)
      = BitVec.ofBool (decide (512 * ki + c.val ≤ 512 * qi + r.val)) := by
  pointwise [k0_pay15]
  rw [pos_word _ _ c.isLt hk, pos_word _ _ r.isLt hq, WordCmp.cmpi_sle_eq, toInt_small _ (by omega), toInt_small _ (by omega)]
  simp only [Nat.cast_le]

theorem select_ofBool (p : Prop) [Decidable p] (x y : EReal) :
    Scalar.select (BitVec.ofBool (decide p)) x y = if p then x else y := by
  by_cases h : p <;> simp [h, Scalar.select]

theorem lane_lt (x : Fin 128) : IntOp.cmpi .slt (BitVec.ofNat 32 x.val) 64#32 = BitVec.ofBool (decide (x.val < 64)) := by
  rw [WordCmp.cmpi_slt_eq, toInt_small _ (by omega), show (64#32).toInt = 64 from rfl]
  norm_cast

/-- The first map's scores of a row, of real queries and keys. -/
theorem s1_at (qi ki : ℕ) (hq : qi < 8) (hk : ki < 8) (x0 x1 : Vec Ideal S1x512x128 .f32) (r c : Fin 512)
    (q k : Fin 128 → ℝ) (h0 : ∀ x, x0 (ix3 0 r x) = ((q x : ℝ) : EReal)) (h1 : ∀ x, x1 (ix3 0 c x) = ((k x : ℝ) : EReal)) :
    k0_pay16 (F := Ideal) (BitVec.ofNat 32 qi) (BitVec.ofNat 32 ki) x0 x1 (ix2 r c)
      = if 512 * ki + c.val ≤ 512 * qi + r.val then
          (((∑ d : Fin 64, q ⟨d.val, by omega⟩ * k ⟨d.val, by omega⟩) * (1 / 8) : ℝ) : EReal) else ⊥ := by
  have e : k0_pay16 (F := Ideal) (BitVec.ofNat 32 qi) (BitVec.ofNat 32 ki) x0 x1 (ix2 r c)
      = Scalar.select (k0_pay15 (BitVec.ofNat 32 qi) (BitVec.ofNat 32 ki) (ix2 r c))
        (∑ x : Fin 128, Scalar.select (IntOp.cmpi .slt (BitVec.ofNat 32 x.val) 64#32)
          (x0 (ix3 0 r x) * Ideal.ofBits FTy.f32 0x3E000000#32 * x1 (ix3 0 c x)) 0) (⊥ : EReal) := by
    pointwise [k0_pay16, k0_pay13, k0_pay11, k0_pay15]
    rfl
  rw [e, mask_at qi ki hq hk, select_ofBool]
  congr 1
  rw [Finset.sum_mul, ← AttnMath.low_half (fun x => q x * k x * (1 / 8)), ← SoftRow.coe_sum]
  refine Finset.sum_congr rfl fun x _ => ?_
  rw [lane_lt, select_ofBool, h0, h1, AttnMath.eighth, ← EReal.coe_mul, ← EReal.coe_mul]
  split_ifs
  · congr 1; ring
  · rfl

/-- The second map's scores of a row, of real queries and keys. -/
theorem s2_at (qi ki : ℕ) (hq : qi < 8) (hk : ki < 8) (x0 x1 : Vec Ideal S1x512x128 .f32) (r c : Fin 512)
    (q k : Fin 128 → ℝ) (h0 : ∀ x, x0 (ix3 0 r x) = ((q x : ℝ) : EReal)) (h1 : ∀ x, x1 (ix3 0 c x) = ((k x : ℝ) : EReal)) :
    k0_pay23 (F := Ideal) (k0_pay12 x0) (k0_pay13 x1) (k0_pay15 (BitVec.ofNat 32 qi) (BitVec.ofNat 32 ki)) (ix2 r c)
      = if 512 * ki + c.val ≤ 512 * qi + r.val then
          (((∑ d : Fin 64, q ⟨64 + d.val, by omega⟩ * k ⟨64 + d.val, by omega⟩) * (1 / 8) : ℝ) : EReal) else ⊥ := by
  have e : ∀ M : IVec S512x512 1, k0_pay23 (F := Ideal) (k0_pay12 x0) (k0_pay13 x1) M (ix2 r c)
      = Scalar.select (M (ix2 r c))
        (∑ x : Fin 128, Scalar.select (IntOp.cmpi .slt (BitVec.ofNat 32 x.val) 64#32) 0
          (x0 (ix3 0 r x) * Ideal.ofBits FTy.f32 0x3E000000#32 * x1 (ix3 0 c x))) (⊥ : EReal) := by
    intro M
    pointwise [k0_pay23, k0_pay12, k0_pay13, k0_pay11]
    rfl
  rw [e, mask_at qi ki hq hk, select_ofBool]
  congr 1
  rw [Finset.sum_mul, ← AttnMath.high_half (fun x => q x * k x * (1 / 8)), ← SoftRow.coe_sum]
  refine Finset.sum_congr rfl fun x _ => ?_
  rw [lane_lt, select_ofBool, h0, h1, AttnMath.eighth, ← EReal.coe_mul, ← EReal.coe_mul]
  split_ifs
  · rfl
  · congr 1; ring

/-- The literal of the running maximum's start is the least element. -/
theorem bot_bits : Ideal.ofBits FTy.f32 0xFF800000#32 = (⊥ : EReal) := by
  simp [Ideal.ofBits, Ideal.ieee]

section
variable (A B : BitVec 32) (x0 x1 x2 : Vec Ideal S1x512x128 .f32) (m l : Vec Ideal S512x1 .f32) (a : Vec Ideal S512x128 .f32)
  (r : Fin 512) (e : Fin 128)

/-- The first map's new running maximum. -/
theorem m1_at : k0_pay17 (F := Ideal) A B x0 x1 m (ix2 r 0)
    = max (m (ix2 r 0)) (Finset.fold max (⊥ : EReal) (fun c => k0_pay16 (F := Ideal) A B x0 x1 (ix2 r c)) Finset.univ) := by
  unfold k0_pay17
  generalize k0_pay16 (F := Ideal) A B x0 x1 = s
  rw [← bot_bits]
  pointwise []

/-- The first map's rescaling factor. -/
theorem al1_at : k0_pay18 (F := Ideal) A B x0 x1 m (ix2 r 0)
    = Ideal.exp (m (ix2 r 0) - k0_pay17 (F := Ideal) A B x0 x1 m (ix2 r 0)) := by
  unfold k0_pay18
  generalize k0_pay17 (F := Ideal) A B x0 x1 m = s
  pointwise []

theorem l1_at (s : FVec Ideal S512x512 .f32) (m' al : FVec Ideal S512x1 .f32) : k0_pay20 (F := Ideal) s m' al l (ix2 r 0)
    = al (ix2 r 0) * l (ix2 r 0) + ∑ c, Ideal.exp (s (ix2 r c) - m' (ix2 r 0)) := by
  pointwise [k0_pay20, k0_pay19]

theorem a1_at (s : FVec Ideal S512x512 .f32) (m' al : FVec Ideal S512x1 .f32) :
    k0_pay21 (F := Ideal) (k0_pay14 x2) s m' al a (ix2 r e)
    = al (ix2 r 0) * a (ix2 r e) + ∑ c, Ideal.exp (s (ix2 r c) - m' (ix2 r 0)) * x2 (ix3 0 c e) := by
  pointwise [k0_pay21, k0_pay19, k0_pay14]

theorem cast22_at (x : FVec Ideal S512x1 .f32) : k0_pay22 (F := Ideal) x (ix2 r 0) = x (ix2 r 0) := by
  pointwise [k0_pay22]
theorem cast9_at (x : FVec Ideal S512x1 .f32) : k0_pay9 (F := Ideal) x (ix2 r 0) = x (ix2 r 0) := by
  pointwise [k0_pay9]

variable (u v : FVec Ideal S512x128 .bf16) (M : IVec S512x512 1)

/-- The second map's new running maximum. -/
theorem m2_at : k0_pay24 (F := Ideal) u v M m (ix2 r 0)
    = max (m (ix2 r 0)) (Finset.fold max (⊥ : EReal) (fun c => k0_pay23 (F := Ideal) u v M (ix2 r c)) Finset.univ) := by
  unfold k0_pay24
  generalize k0_pay23 (F := Ideal) u v M = s
  rw [← bot_bits]
  pointwise []

/-- The second map's rescaling factor. -/
theorem al2_at : k0_pay25 (F := Ideal) u v M m (ix2 r 0)
    = Ideal.exp (m (ix2 r 0) - k0_pay24 (F := Ideal) u v M m (ix2 r 0)) := by
  unfold k0_pay25
  generalize k0_pay24 (F := Ideal) u v M m = s
  pointwise []

theorem p2_at (c : Fin 512) : k0_pay26 (F := Ideal) u v M m (ix2 r c)
    = Ideal.exp (k0_pay23 (F := Ideal) u v M (ix2 r c) - k0_pay24 (F := Ideal) u v M m (ix2 r 0)) := by
  unfold k0_pay26
  generalize k0_pay24 (F := Ideal) u v M m = s
  generalize k0_pay23 (F := Ideal) u v M = s'
  pointwise []

theorem al2l_at : k0_pay27 (F := Ideal) u v M m l (ix2 r 0)
    = k0_pay25 (F := Ideal) u v M m (ix2 r 0) * l (ix2 r 0) := by
  unfold k0_pay27
  generalize k0_pay25 (F := Ideal) u v M m = s
  pointwise []

theorem l2_at (p : FVec Ideal S512x512 .f32) (l' : FVec Ideal S512x1 .f32) :
    k0_pay7 (F := Ideal) p l' (ix2 r 0) = l' (ix2 r 0) + ∑ c, p (ix2 r c) := by
  pointwise [k0_pay7]

theorem a2_at (al : FVec Ideal S512x1 .f32) (p : FVec Ideal S512x512 .f32) :
    k0_pay8 (F := Ideal) (k0_pay14 x2) al p a (ix2 r e) = al (ix2 r 0) * a (ix2 r e) + ∑ c, p (ix2 r c) * x2 (ix3 0 c e) := by
  pointwise [k0_pay8, k0_pay14]

end

theorem start_m : k0_pay1 (F := Ideal) = fun _ => (⊥ : EReal) := by
  funext y; rfl
theorem start_l : k0_pay2 (F := Ideal) = fun _ => (0 : EReal) := by
  funext y; pointwise [k0_pay2]
theorem start_a : k0_pay3 (F := Ideal) = fun _ => (0 : EReal) := by
  funext y; pointwise [k0_pay3]
end Cert.AttnIdeal.Rows
-- ==== Proof.AttnUpd.lean ====
module
public import proofs.«01_k».proof.Proof.AttnRows
@[expose] public section
namespace Cert.AttnIdeal.Rows
open Cert.AttnIdeal Cert.AttnIdeal.Gen Idealize.ShloMosaic Idealize.ShloMosaic.TcCoe Idealize.SL.Sem
open Cert.SoftRow (Run wt)
set_option maxRecDepth 16384
/-! One block of keys and values on one row of the carried buffers, and the output block's rows. -/

section
variable (qi ki : ℕ) (hq : qi < 8) (hk : ki < 8) (hle : ki ≤ qi) (x0 x1 x2 : Vec Ideal S1x512x128 .f32) (s : Scr Ideal)
  (r : Fin 512) (e : Fin 128) (q : Fin 128 → ℝ) (k : Fin 512 → Fin 128 → ℝ) (v : Fin 512 → ℝ)
  (h0 : ∀ x, x0 (ix3 0 r x) = ((q x : ℝ) : EReal)) (h1 : ∀ c x, x1 (ix3 0 c x) = ((k c x : ℝ) : EReal))
  (h2 : ∀ c, x2 (ix3 0 c e) = ((v c : ℝ) : EReal))
include hq hk hle h0 h1 h2

/-- The first map's row takes in the block's weights. -/
theorem upd_run1 {W N : ℝ} (h : Run (s.m1 (ix2 r 0)) (s.l1 (ix2 r 0)) (s.a1 (ix2 r e)) W N) :
    Run ((upd (BitVec.ofNat 32 qi) (BitVec.ofNat 32 ki) x0 x1 x2 s).m1 (ix2 r 0))
      ((upd (BitVec.ofNat 32 qi) (BitVec.ofNat 32 ki) x0 x1 x2 s).l1 (ix2 r 0))
      ((upd (BitVec.ofNat 32 qi) (BitVec.ofNat 32 ki) x0 x1 x2 s).a1 (ix2 r e))
      (W + ∑ c : Fin 512, wt (512 * ki + c.val ≤ 512 * qi + r.val)
        ((∑ d : Fin 64, q ⟨d.val, by omega⟩ * k c ⟨d.val, by omega⟩) * (1 / 8)))
      (N + ∑ c : Fin 512, wt (512 * ki + c.val ≤ 512 * qi + r.val)
        ((∑ d : Fin 64, q ⟨d.val, by omega⟩ * k c ⟨d.val, by omega⟩) * (1 / 8)) * v c) := by
  have := Run.step h (fun c : Fin 512 => 512 * ki + c.val ≤ 512 * qi + r.val)
    (fun c => (∑ d : Fin 64, q ⟨d.val, by omega⟩ * k c ⟨d.val, by omega⟩) * (1 / 8)) v
    (fun c => k0_pay16 (F := Ideal) (BitVec.ofNat 32 qi) (BitVec.ofNat 32 ki) x0 x1 (ix2 r c))
    (fun c => s1_at qi ki hq hk x0 x1 r c q (k c) h0 (h1 c)) ⟨0, by show 512 * ki + 0 ≤ _; omega⟩
    (k0_pay17 (F := Ideal) (BitVec.ofNat 32 qi) (BitVec.ofNat 32 ki) x0 x1 s.m1 (ix2 r 0)) (m1_at _ _ x0 x1 s.m1 r)
  unfold upd
  dsimp only
  rw [cast22_at, l1_at, a1_at, al1_at]
  simp only [h2]
  exact this

/-- The second map's row takes in the block's weights. -/
theorem upd_run2 {W N : ℝ} (h : Run (s.m2 (ix2 r 0)) (s.l2 (ix2 r 0)) (s.a2 (ix2 r e)) W N) :
    Run ((upd (BitVec.ofNat 32 qi) (BitVec.ofNat 32 ki) x0 x1 x2 s).m2 (ix2 r 0))
      ((upd (BitVec.ofNat 32 qi) (BitVec.ofNat 32 ki) x0 x1 x2 s).l2 (ix2 r 0))
      ((upd (BitVec.ofNat 32 qi) (BitVec.ofNat 32 ki) x0 x1 x2 s).a2 (ix2 r e))
      (W + ∑ c : Fin 512, wt (512 * ki + c.val ≤ 512 * qi + r.val)
        ((∑ d : Fin 64, q ⟨64 + d.val, by omega⟩ * k c ⟨64 + d.val, by omega⟩) * (1 / 8)))
      (N + ∑ c : Fin 512, wt (512 * ki + c.val ≤ 512 * qi + r.val)
        ((∑ d : Fin 64, q ⟨64 + d.val, by omega⟩ * k c ⟨64 + d.val, by omega⟩) * (1 / 8)) * v c) := by
  have := Run.step h (fun c : Fin 512 => 512 * ki + c.val ≤ 512 * qi + r.val)
    (fun c => (∑ d : Fin 64, q ⟨64 + d.val, by omega⟩ * k c ⟨64 + d.val, by omega⟩) * (1 / 8)) v
    (fun c => k0_pay23 (F := Ideal) (k0_pay12 x0) (k0_pay13 x1) (k0_pay15 (BitVec.ofNat 32 qi) (BitVec.ofNat 32 ki)) (ix2 r c))
    (fun c => s2_at qi ki hq hk x0 x1 r c q (k c) h0 (h1 c)) ⟨0, by show 512 * ki + 0 ≤ _; omega⟩
    (k0_pay24 (F := Ideal) (k0_pay12 x0) (k0_pay13 x1) (k0_pay15 (BitVec.ofNat 32 qi) (BitVec.ofNat 32 ki)) s.m2 (ix2 r 0))
    (m2_at s.m2 r _ _ _)
  unfold upd
  dsimp only
  rw [cast9_at, l2_at, a2_at, al2l_at, al2_at]
  simp only [p2_at, h2]
  exact this
end

/-- A row's first state stands for nothing yet. -/
theorem start_run1 (r : Fin 512) (e : Fin 128) :
    Run ((start (F := Ideal)).m1 (ix2 r 0)) ((start (F := Ideal)).l1 (ix2 r 0)) ((start (F := Ideal)).a1 (ix2 r e)) 0 0 :=
  Or.inl ⟨congrFun start_m (ix2 r 0), congrFun start_l (ix2 r 0), congrFun start_a (ix2 r e), rfl, rfl⟩
theorem start_run2 (r : Fin 512) (e : Fin 128) :
    Run ((start (F := Ideal)).m2 (ix2 r 0)) ((start (F := Ideal)).l2 (ix2 r 0)) ((start (F := Ideal)).a2 (ix2 r e)) 0 0 :=
  Or.inl ⟨congrFun start_m (ix2 r 0), congrFun start_l (ix2 r 0), congrFun start_a (ix2 r e), rfl, rfl⟩

end Cert.AttnIdeal.Rows
-- ==== Proof.AttnFin.lean ====
module
public import proofs.«01_k».proof.Proof.AttnStep
public import proofs.«01_k».proof.Proof.AttnMath
public import Idealize.ShloMosaic.Lib.Pointwise
@[expose] public section
namespace Cert.AttnIdeal.Rows
open Cert.AttnIdeal Cert.AttnIdeal.Gen Idealize.ShloMosaic Idealize.ShloMosaic.TcCoe Idealize.SL.Sem
set_option maxRecDepth 16384
/-! The output block's rows, of the carried buffers. -/

theorem mix_at (x3 x4 x5 x6 : Vec Ideal S1x64 .f32) (a1 a2 : Vec Ideal S512x128 .f32) (l1 l2 : Vec Ideal S512x1 .f32)
    (r : Fin 512) (e : Fin 128) :
    k0_pay28 (F := Ideal) x3 x4 x5 x6 a1 l1 a2 l2 (ix2 r e)
      = Ideal.div (a1 (ix2 r e)) (l1 (ix2 r 0)) - AttnMath.lam (fun d => x3 (ix2 0 d)) (fun d => x4 (ix2 0 d))
          (fun d => x5 (ix2 0 d)) (fun d => x6 (ix2 0 d)) * Ideal.div (a2 (ix2 r e)) (l2 (ix2 r 0)) := by
  unfold AttnMath.lam
  pointwise [k0_pay28]

/-- The output block at a row: the two maps' difference, normalised. -/
theorem fin_at (x3 x4 x5 x6 : Vec Ideal S1x64 .f32) (x7 : Vec Ideal S1x128 .f32) (s : Scr Ideal) (r : Fin 512) (e : Fin 128) :
    fin (F := Ideal) x3 x4 x5 x6 x7 s (ix3 0 r e) = AttnMath.normed (fun e => Ideal.div (s.a1 (ix2 r e)) (s.l1 (ix2 r 0))
      - AttnMath.lam (fun d => x3 (ix2 0 d)) (fun d => x4 (ix2 0 d)) (fun d => x5 (ix2 0 d)) (fun d => x6 (ix2 0 d))
        * Ideal.div (s.a2 (ix2 r e)) (s.l2 (ix2 r 0))) (fun e => x7 (ix2 0 e)) e := by
  simp only [← mix_at]
  unfold fin k0_pay29
  generalize k0_pay28 (F := Ideal) x3 x4 x5 x6 s.a1 s.l1 s.a2 s.l2 = o
  unfold AttnMath.normed
  pointwise [k0_pay10]
end Cert.AttnIdeal.Rows
-- ==== Proof.AttnRunA.lean ====
module
public import proofs.«01_k».proof.Proof.AttnStep
public import Idealize.ShloMosaic.Lib.VecWindow
@[expose] public section
set_option maxRecDepth 16384
/-! The run of the attention's body at a point that is the first of its row and on the diagonal. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- At a point that is the first of its row and on the diagonal the body, on whole buffers, leaves its inputs as they are, the carried buffers at
`next` and the output block at `nextOut`. -/
theorem run_A (c : Dev nD) (i : grid0.Coords) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (hc0 : cond0_0 i) (hc1 : cond0_1 i) (hc2 : cond0_2 i)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨xs0, xs1, xs2, xs3, xs4, xs5⟩ := s
  rw [next, nextOut, if_pos hc1, if_pos hc0, if_pos hc2]
  unfold scrOwns upd start fin
  dsimp only
  simp only [cc0_attn_prompt_eq_skeleton]; unfold cc0_attn_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS0]
  · iexists _; isplitr; swap; · iexact HS0
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS1]
  · iexists _; isplitr; swap; · iexact HS1
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS2]
  · iexists _; isplitr; swap; · iexact HS2
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS3]
  · iexists _; isplitr; swap; · iexact HS3
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS4]
  · iexists _; isplitr; swap; · iexact HS4
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  iexists _; isplitr; swap; · iexact HS5
  ipureintro
  refine (View.read_writes_full _ _ _ _ _).trans ?_
  sl_unfold_run_names
  simp only [ld_1x512x128, ld_1x64, ld_1x128, ld_512x1, ld_512x128, ldc_512x1, ldc_512x128, lds_512x1, lds_512x128, Memref.IsWhole.read_unread]

end Cert.AttnIdeal.Gen
-- ==== Proof.AttnRunB.lean ====
module
public import proofs.«01_k».proof.Proof.AttnStep
public import Idealize.ShloMosaic.Lib.VecWindow
@[expose] public section
set_option maxRecDepth 16384
/-! The run of the attention's body at a point above the diagonal. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- At a point above the diagonal the body, on whole buffers, leaves its inputs as they are, the carried buffers at
`next` and the output block at `nextOut`. -/
theorem run_B (c : Dev nD) (i : grid0.Coords) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (hc0 : ¬cond0_0 i) (hc1 : ¬cond0_1 i) (hc2 : ¬cond0_2 i)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨xs0, xs1, xs2, xs3, xs4, xs5⟩ := s
  rw [next, nextOut, if_neg hc1, if_neg hc2]
  unfold scrOwns
  dsimp only
  simp only [cc0_attn_prompt_eq_skeleton]; unfold cc0_attn_prompt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    exact harg12.read_unread _
  isplitl [HS0]
  · iexists _; isplitr; swap; · iexact HS0
    ipureintro
    exact harg13.read_unread _
  isplitl [HS1]
  · iexists _; isplitr; swap; · iexact HS1
    ipureintro
    exact harg14.read_unread _
  isplitl [HS2]
  · iexists _; isplitr; swap; · iexact HS2
    ipureintro
    exact harg15.read_unread _
  isplitl [HS3]
  · iexists _; isplitr; swap; · iexact HS3
    ipureintro
    exact harg16.read_unread _
  isplitl [HS4]
  · iexists _; isplitr; swap; · iexact HS4
    ipureintro
    exact harg17.read_unread _
  iexists _; isplitr; swap; · iexact HS5
  ipureintro
  exact harg18.read_unread _

end Cert.AttnIdeal.Gen
-- ==== Proof.AttnRunC.lean ====
module
public import proofs.«01_k».proof.Proof.AttnStep
public import Idealize.ShloMosaic.Lib.VecWindow
@[expose] public section
set_option maxRecDepth 16384
/-! The run of the attention's body at a point that is the first of its row and below the diagonal. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- At a point that is the first of its row and below the diagonal the body, on whole buffers, leaves its inputs as they are, the carried buffers at
`next` and the output block at `nextOut`. -/
theorem run_C (c : Dev nD) (i : grid0.Coords) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (hc0 : cond0_0 i) (hc1 : cond0_1 i) (hc2 : ¬cond0_2 i)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨xs0, xs1, xs2, xs3, xs4, xs5⟩ := s
  rw [next, nextOut, if_pos hc1, if_pos hc0, if_neg hc2]
  unfold scrOwns upd start
  dsimp only
  simp only [cc0_attn_prompt_eq_skeleton]; unfold cc0_attn_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    exact harg12.read_unread _
  isplitl [HS0]
  · iexists _; isplitr; swap; · iexact HS0
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS1]
  · iexists _; isplitr; swap; · iexact HS1
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS2]
  · iexists _; isplitr; swap; · iexact HS2
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS3]
  · iexists _; isplitr; swap; · iexact HS3
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS4]
  · iexists _; isplitr; swap; · iexact HS4
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  iexists _; isplitr; swap; · iexact HS5
  ipureintro
  refine (View.read_writes_full _ _ _ _ _).trans ?_
  sl_unfold_run_names
  simp only [ld_1x512x128, ld_1x64, ld_1x128, ld_512x1, ld_512x128, ldc_512x1, ldc_512x128, lds_512x1, lds_512x128, Memref.IsWhole.read_unread]

end Cert.AttnIdeal.Gen
-- ==== Proof.AttnRunD.lean ====
module
public import proofs.«01_k».proof.Proof.AttnStep
public import Idealize.ShloMosaic.Lib.VecWindow
@[expose] public section
set_option maxRecDepth 16384
/-! The run of the attention's body at a point on the diagonal that is not the first of its row. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- At a point on the diagonal that is not the first of its row the body, on whole buffers, leaves its inputs as they are, the carried buffers at
`next` and the output block at `nextOut`. -/
theorem run_D (c : Dev nD) (i : grid0.Coords) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (hc0 : ¬cond0_0 i) (hc1 : cond0_1 i) (hc2 : cond0_2 i)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨xs0, xs1, xs2, xs3, xs4, xs5⟩ := s
  rw [next, nextOut, if_pos hc1, if_neg hc0, if_pos hc2]
  unfold scrOwns upd fin
  dsimp only
  simp only [cc0_attn_prompt_eq_skeleton]; unfold cc0_attn_prompt_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS0]
  · iexists _; isplitr; swap; · iexact HS0
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS1]
  · iexists _; isplitr; swap; · iexact HS1
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS2]
  · iexists _; isplitr; swap; · iexact HS2
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS3]
  · iexists _; isplitr; swap; · iexact HS3
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS4]
  · iexists _; isplitr; swap; · iexact HS4
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  iexists _; isplitr; swap; · iexact HS5
  ipureintro
  refine (View.read_writes_full _ _ _ _ _).trans ?_
  sl_unfold_run_names
  simp only [ld_1x512x128, ld_1x64, ld_1x128, ld_512x1, ld_512x128, ldc_512x1, ldc_512x128, lds_512x1, lds_512x128, Memref.IsWhole.read_unread]

end Cert.AttnIdeal.Gen
-- ==== Proof.AttnRunE.lean ====
module
public import proofs.«01_k».proof.Proof.AttnStep
public import Idealize.ShloMosaic.Lib.VecWindow
@[expose] public section
set_option maxRecDepth 16384
/-! The run of the attention's body at a point below the diagonal that is not the first of its row. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- At a point below the diagonal that is not the first of its row the body, on whole buffers, leaves its inputs as they are, the carried buffers at
`next` and the output block at `nextOut`. -/
theorem run_E (c : Dev nD) (i : grid0.Coords) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (hc0 : ¬cond0_0 i) (hc1 : cond0_1 i) (hc2 : ¬cond0_2 i)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨xs0, xs1, xs2, xs3, xs4, xs5⟩ := s
  rw [next, nextOut, if_pos hc1, if_neg hc0, if_neg hc2]
  unfold scrOwns upd
  dsimp only
  simp only [cc0_attn_prompt_eq_skeleton]; unfold cc0_attn_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; swap; · iexact H8
    ipureintro
    exact harg12.read_unread _
  isplitl [HS0]
  · iexists _; isplitr; swap; · iexact HS0
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS1]
  · iexists _; isplitr; swap; · iexact HS1
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS2]
  · iexists _; isplitr; swap; · iexact HS2
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS3]
  · iexists _; isplitr; swap; · iexact HS3
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  isplitl [HS4]
  · iexists _; isplitr; swap; · iexact HS4
    ipureintro
    refine (View.read_writes_full _ _ _ _ _).trans ?_
    sl_unfold_run_names
    simp only [ld_1x512x128, ld_1x64, ld_1x128, ld_512x1, ld_512x128, ldc_512x1, ldc_512x128, lds_512x1, lds_512x128, Memref.IsWhole.read_unread]
  iexists _; isplitr; swap; · iexact HS5
  ipureintro
  refine (View.read_writes_full _ _ _ _ _).trans ?_
  sl_unfold_run_names
  simp only [ld_1x512x128, ld_1x64, ld_1x128, ld_512x1, ld_512x128, ldc_512x1, ldc_512x128, lds_512x1, lds_512x128, Memref.IsWhole.read_unread]

end Cert.AttnIdeal.Gen
-- ==== Proof.AttnFrame.lean ====
module
public import proofs.«01_k».proof.Proof.AttnRunA
public import proofs.«01_k».proof.Proof.AttnRunB
public import proofs.«01_k».proof.Proof.AttnRunC
public import proofs.«01_k».proof.Proof.AttnRunD
public import proofs.«01_k».proof.Proof.AttnRunE
public import Idealize.ShloMosaic.Lib.Pipeline.TableIdle
public import Idealize.ShloMosaic.Lib.Pipeline.KitQuiescent
public import Idealize.ShloMosaic.Lib.Claim
@[expose] public section
set_option maxRecDepth 16384
/-! The launch of the attention: what the carried buffers and the output block hold at every point of the grid, the
run of the whole call, and its frame. -/
noncomputable section
namespace Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At any point the body, on whole buffers, leaves its inputs as they are, the carried buffers at `next` and the output
block at `nextOut`. -/
theorem run_all (c : Dev nD) (t : Fin cfg0.N) (i : grid0.Coords) (hi : i = grid0.coords t) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole)
    (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (arg11 : Memref sig .tc .vmem S1x128 .f32) (harg11 : arg11.IsWhole) (arg12 : Memref sig .tc .vmem S1x512x128 .f32) (harg12 : arg12.IsWhole) (arg13 : Memref sig .tc .vmem S512x1 .f32) (harg13 : arg13.IsWhole) (arg14 : Memref sig .tc .vmem S512x1 .f32) (harg14 : arg14.IsWhole)
    (arg15 : Memref sig .tc .vmem S512x128 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x128 .f32) (harg18 : arg18.IsWhole)
    (x0 x1 x2 : Vec F S1x512x128 .f32) (x3 x4 x5 x6 : Vec F S1x64 .f32) (x7 : Vec F S1x128 .f32)
    (o : Vec F S1x512x128 .f32) (s : Scr F) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
        ∗ owns (c : Thread nD τ) arg12 fullShare o ∗ scrOwns c arg13 arg14 arg15 arg16 arg17 arg18 s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7
            ∗ owns (c : Thread nD τ) arg12 fullShare (nextOut i x3 x4 x5 x6 x7 (next i x0 x1 x2 s) o)
            ∗ scrOwns c arg13 arg14 arg15 arg16 arg17 arg18 (next i x0 x1 x2 s)) -∗ K ⟨⟩))
      ⊢ wp frame (wpE (defs₀ (F := F)) Variants.none c none) E (cc0_attn_prompt i arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  subst hi
  have hN : t.val < 1024 := lt_of_lt_of_eq t.isLt (show cfg0.N = 1024 from N_0)
  by_cases h0 : t.val % 8 = 0
  · have h1 : t.val % 8 ≤ t.val / 8 % 8 := by omega
    by_cases h2 : t.val / 8 % 8 = t.val % 8
    · exact run_A c _ arg4 harg4 arg5 harg5 arg6 harg6 arg7 harg7 arg8 harg8 arg9 harg9 arg10 harg10 arg11 harg11 arg12 harg12 arg13 harg13 arg14 harg14 arg15 harg15 arg16 harg16 arg17 harg17 arg18 harg18 ((hcond0_0 t).mpr h0) ((hcond0_1 t).mpr h1) ((hcond0_2 t).mpr h2) x0 x1 x2 x3 x4 x5 x6 x7 o s E K
    · exact run_C c _ arg4 harg4 arg5 harg5 arg6 harg6 arg7 harg7 arg8 harg8 arg9 harg9 arg10 harg10 arg11 harg11 arg12 harg12 arg13 harg13 arg14 harg14 arg15 harg15 arg16 harg16 arg17 harg17 arg18 harg18 ((hcond0_0 t).mpr h0) ((hcond0_1 t).mpr h1) (fun h => h2 ((hcond0_2 t).mp h)) x0 x1 x2 x3 x4 x5 x6 x7 o s E K
  · by_cases h1 : t.val % 8 ≤ t.val / 8 % 8
    · by_cases h2 : t.val / 8 % 8 = t.val % 8
      · exact run_D c _ arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => h0 ((hcond0_0 t).mp h)) ((hcond0_1 t).mpr h1) ((hcond0_2 t).mpr h2) x0 x1 x2 x3 x4 x5 x6 x7 o s E K
      · exact run_E c _ arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => h0 ((hcond0_0 t).mp h)) ((hcond0_1 t).mpr h1) (fun h => h2 ((hcond0_2 t).mp h)) x0 x1 x2 x3 x4 x5 x6 x7 o s E K
    · have h2 : ¬ t.val / 8 % 8 = t.val % 8 := by omega
      exact run_B c _ arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => h0 ((hcond0_0 t).mp h)) (fun h => h1 ((hcond0_1 t).mp h)) (fun h => h2 ((hcond0_2 t).mp h)) x0 x1 x2 x3 x4 x5 x6 x7 o s E K

variable (m : (ℓ : Loc nD τ sig) → Buf (Elt F) ℓ) (ρ : Dev nD → PrngReg)

/-! ## The trajectory -/

/-- What a point makes of the carried buffers, on the blocks staged at it. -/
def nextAt (c : Dev nD) (t : Fin cfg0.N) (s : Scr F) : Scr F :=
  next (grid0.coords t) (iblk m c 0 t) (iblk m c 1 t) (iblk m c 2 t) s

/-- The carried buffers after each point. -/
def scrAt (c : Dev nD) : (n : ℕ) → n < cfg0.N → Scr F
  | 0, h => nextAt m c ⟨0, h⟩ start
  | n + 1, h => nextAt m c ⟨n + 1, h⟩ (scrAt c n (by omega))

/-- The diagonal point of the row of points that `t` lies in. -/
def diagOf (t : Fin cfg0.N) : Fin cfg0.N :=
  ⟨8 * (t.val / 8) + t.val / 8 % 8, by have := t.isLt; have h : cfg0.N = 1024 := N_0; omega⟩

/-- The output block of the row of points that the diagonal point `t` ends. -/
def outOf (c : Dev nD) (t : Fin cfg0.N) : Vec F S1x512x128 .f32 :=
  fin (iblk m c 3 t) (iblk m c 4 t) (iblk m c 5 t) (iblk m c 6 t) (iblk m c 7 t) (scrAt m c t.val t.isLt)

/-- A row's first point does not look at what the carried buffers held. -/
theorem nextAt_first (c : Dev nD) (t : Fin cfg0.N) (h : t.val % 8 = 0) (s s' : Scr F) : nextAt m c t s = nextAt m c t s' := by
  have h0 := (hcond0_0 t).mpr h
  unfold nextAt next
  have h1 := (hcond0_1 t).mpr (show t.val % 8 ≤ t.val / 8 % 8 by omega)
  simp only [if_pos h0, if_pos h1]

/-- The carried buffers after a point that is not the first, from those after the one before. -/
theorem scrAt_pos (c : Dev nD) (n : ℕ) (h : n < cfg0.N) (hz : n ≠ 0) :
    scrAt m c n h = nextAt m c ⟨n, h⟩ (scrAt m c (n - 1) (by omega)) := by
  cases n with
  | zero => exact absurd rfl hz
  | succ n => rfl

/-- The carried buffers after a row's first point. -/
theorem scrAt_first (c : Dev nD) (t : Fin cfg0.N) (h : t.val % 8 = 0) : scrAt m c t.val t.isLt = nextAt m c t start := by
  by_cases hz : t.val = 0
  · obtain ⟨n, hn⟩ := t
    simp only at hz; subst hz; rfl
  · rw [scrAt_pos m c _ _ hz]; exact nextAt_first m c t h _ _

/-- The region's invariant before each point: at first the carried buffers at anything, then at what the point before
left. -/
def PhiS (c : Dev nD) : (n : ℕ) → n ≤ cfg0.N → sProp 𝕄
  | 0, _ => Pipeline.ΦA spec0 c
  | n + 1, hn => iprop(scrOwns c scM0_0 scM0_1 scM0_2 scM0_3 scM0_4 scM0_5 (scrAt m c n hn) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant before a later point. -/
theorem PhiS_pos (c : Dev nD) (n : ℕ) (h : n ≤ cfg0.N) (hz : n ≠ 0) :
    PhiS m c n h = iprop(scrOwns c scM0_0 scM0_1 scM0_2 scM0_3 scM0_4 scM0_5 (scrAt m c (n - 1) (by omega)) ∗ (∃ r, prngReg c r)) := by
  cases n with
  | zero => exact absurd rfl hz
  | succ n => rfl

/-! ## The proof data -/

/-- The arrays as the region finds them; each input's buffer left at its block, the output's at the block its row of
points ends with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outOf m c (diagOf t)
  Φ t := PhiS m c t.val (Nat.le_of_lt_succ t.isLt)
  q _ := fullShare
  owed _ := 0

/-- The proof data's arrays are the arrays at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input 0 is left at its block. -/
theorem after0_0 (c : Dev nD) (t : Fin cfg0.N) : (dats m 0 c).after 0 t = iblk m c 0 t := by dsimp only [dats]
/-- Input 1 is left at its block. -/
theorem after0_1 (c : Dev nD) (t : Fin cfg0.N) : (dats m 0 c).after 1 t = iblk m c 1 t := by dsimp only [dats]
/-- Input 2 is left at its block. -/
theorem after0_2 (c : Dev nD) (t : Fin cfg0.N) : (dats m 0 c).after 2 t = iblk m c 2 t := by dsimp only [dats]
/-- Input 3 is left at its block. -/
theorem after0_3 (c : Dev nD) (t : Fin cfg0.N) : (dats m 0 c).after 3 t = iblk m c 3 t := by dsimp only [dats]
/-- Input 4 is left at its block. -/
theorem after0_4 (c : Dev nD) (t : Fin cfg0.N) : (dats m 0 c).after 4 t = iblk m c 4 t := by dsimp only [dats]
/-- Input 5 is left at its block. -/
theorem after0_5 (c : Dev nD) (t : Fin cfg0.N) : (dats m 0 c).after 5 t = iblk m c 5 t := by dsimp only [dats]
/-- Input 6 is left at its block. -/
theorem after0_6 (c : Dev nD) (t : Fin cfg0.N) : (dats m 0 c).after 6 t = iblk m c 6 t := by dsimp only [dats]
/-- Input 7 is left at its block. -/
theorem after0_7 (c : Dev nD) (t : Fin cfg0.N) : (dats m 0 c).after 7 t = iblk m c 7 t := by dsimp only [dats]
/-- The output is left at its row's block. -/
theorem after0_8 (c : Dev nD) (t : Fin cfg0.N) : (dats m 0 c).after 8 t = outOf m c (diagOf t) := by dsimp only [dats]
/-- Input 0 is found at its block. -/
theorem before0_0 (c : Dev nD) (t : Fin cfg0.N) (d) : (dats m 0 c).before 0 t d = iblk m c 0 t :=
  before0_0_of m (dats m 0 c) (A_eq m c 0) (after0_0 m c) t d
/-- Input 1 is found at its block. -/
theorem before0_1 (c : Dev nD) (t : Fin cfg0.N) (d) : (dats m 0 c).before 1 t d = iblk m c 1 t :=
  before0_1_of m (dats m 0 c) (A_eq m c 1) (after0_1 m c) t d
/-- Input 2 is found at its block. -/
theorem before0_2 (c : Dev nD) (t : Fin cfg0.N) (d) : (dats m 0 c).before 2 t d = iblk m c 2 t :=
  before0_2_of m (dats m 0 c) (A_eq m c 2) (after0_2 m c) t d
/-- Input 3 is found at its block. -/
theorem before0_3 (c : Dev nD) (t : Fin cfg0.N) (d) : (dats m 0 c).before 3 t d = iblk m c 3 t :=
  before0_3_of m (dats m 0 c) (A_eq m c 3) (after0_3 m c) t d
/-- Input 4 is found at its block. -/
theorem before0_4 (c : Dev nD) (t : Fin cfg0.N) (d) : (dats m 0 c).before 4 t d = iblk m c 4 t :=
  before0_4_of m (dats m 0 c) (A_eq m c 4) (after0_4 m c) t d
/-- Input 5 is found at its block. -/
theorem before0_5 (c : Dev nD) (t : Fin cfg0.N) (d) : (dats m 0 c).before 5 t d = iblk m c 5 t :=
  before0_5_of m (dats m 0 c) (A_eq m c 5) (after0_5 m c) t d
/-- Input 6 is found at its block. -/
theorem before0_6 (c : Dev nD) (t : Fin cfg0.N) (d) : (dats m 0 c).before 6 t d = iblk m c 6 t :=
  before0_6_of m (dats m 0 c) (A_eq m c 6) (after0_6 m c) t d
/-- Input 7 is found at its block. -/
theorem before0_7 (c : Dev nD) (t : Fin cfg0.N) (d) : (dats m 0 c).before 7 t d = iblk m c 7 t :=
  before0_7_of m (dats m 0 c) (A_eq m c 7) (after0_7 m c) t d

/-- The output is stored at the diagonal points only. -/
theorem idle0_8 : ∀ t : Fin cfg0.N, cfg0.idle 8 (grid0.coords t) = !decide (t.val / 8 % 8 = t.val % 8) :=
  (by decide +kernel : ∀ t : Fin grid0.N, cfg0.idle 8 (grid0.coords t) = !decide (t.val / 8 % 8 = t.val % 8))

/-- The output is written back at a row's last point only. -/
theorem flushEq0_8 : ∀ t : Fin cfg0.N, (cfg0.win 8).flush t = decide (t.val % 8 = 7) := by
  simp only [Pipeline.Window.flush_eq_flushF]
  exact (by decide +kernel : ∀ t : Fin grid0.N, (cfg0.win 8).flushF t = decide (t.val % 8 = 7))

/-- Up to its row's diagonal point the output's buffer holds nothing of the row. -/
theorem fresh0_8 (t : Fin cfg0.N) : cfg0.fresh 8 t.val = decide (t.val % 8 ≤ t.val / 8 % 8) := by
  refine Pipeline.Cfg.fresh_tab cfg0 8 (fun n => decide (n % 8 ≤ n / 8 % 8)) rfl (fun s => ?_) t.val (Nat.le_of_lt t.isLt)
  rw [flushEq0_8, show cfg0.idle 8 (cfg0.grid.coords s) = _ from idle0_8 s]
  rw [Bool.eq_iff_iff]
  simp only [Bool.or_eq_true, Bool.and_eq_true, decide_eq_true_eq, Bool.not_eq_true', decide_eq_false_iff_not]
  by_cases h : s.val % 8 = 7
  · omega
  · have e : (s.val + 1) / 8 = s.val / 8 := by omega
    rw [e]; omega

/-- What the body finds in the output's buffer: anything up to the diagonal point, then its row's block. -/
theorem before0_8 (c : Dev nD) (t : Fin cfg0.N) (d : Vec F S1x512x128 .f32) :
    (dats m 0 c).before 8 t d = if t.val % 8 ≤ t.val / 8 % 8 then d else outOf m c (diagOf t) := by
  have hc : ∀ s : Fin cfg0.N, cfg0.fresh 8 s.val = false → diagOf s = diagOf ⟨s.val - 1, by omega⟩ := by
    intro s hs
    rw [fresh0_8, decide_eq_false_iff_not] at hs
    have e : (s.val - 1) / 8 = s.val / 8 := by omega
    exact Fin.ext (show 8 * (s.val / 8) + s.val / 8 % 8 = 8 * ((s.val - 1) / 8) + (s.val - 1) / 8 % 8 by rw [e])
  rw [(dats m 0 c).before_out_traj 8 rfl (fun _ _ => rfl)
    (fun s _ _ hs => by rw [after0_8, after0_8, hc s hs]) t.val t rfl d, fresh0_8, after0_8]
  by_cases h : t.val % 8 ≤ t.val / 8 % 8
  · rw [decide_eq_true h, if_pos rfl, if_pos h]
  · rw [decide_eq_false h, if_neg h, ← hc t (by rw [fresh0_8]; exact decide_eq_false h)]; rfl

/-- A diagonal point is its row's diagonal point. -/
theorem diagOf_self (t : Fin cfg0.N) (h : t.val / 8 % 8 = t.val % 8) : diagOf t = t :=
  Fin.ext (show 8 * (t.val / 8) + t.val / 8 % 8 = t.val by omega)

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- What the body must leave of input 0. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
/-- What the body must leave of input 1. -/
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
/-- What the body must leave of input 2. -/
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
/-- What the body must leave of input 3. -/
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- What the body must leave of input 4. -/
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
/-- What the body must leave of input 5. -/
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
/-- What the body must leave of input 6. -/
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
/-- What the body must leave of input 7. -/
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-- The output block after a point, from what the body found there, is as the body must leave it. -/
theorem leaves0_8 (c : Dev nD) (t : Fin cfg0.N) (d : Vec F S1x512x128 .f32) :
    owns (c : Thread nD τ) (ms0_8 t) fullShare (nextOut (grid0.coords t) (iblk m c 3 t) (iblk m c 4 t) (iblk m c 5 t) (iblk m c 6 t) (iblk m c 7 t) (scrAt m c t.val t.isLt) ((dats m 0 c).before 8 t d))
      ⊢ (dats m 0 c).leavesExact 8 t := by
  unfold Dat.leavesExact nextOut
  rw [idle0_8 t, flushEq0_8 t]
  by_cases h : t.val / 8 % 8 = t.val % 8
  · rw [if_pos ((hcond0_2 t).mpr h), decide_eq_true h, after0_8, diagOf_self t h]
    exact Idealize.SL.BI.Entails.refl _
  · rw [if_neg (fun h' => h ((hcond0_2 t).mp h')), decide_eq_false h]
    by_cases hf : t.val % 8 = 7
    · rw [decide_eq_true hf, after0_8, before0_8, if_neg (by omega)]
      exact Idealize.SL.BI.Entails.refl _
    · rw [decide_eq_false hf]
      show _ ⊢ iprop(∃ d, owns (c : Thread nD τ) (ms0_8 t) fullShare ((dats m 0 c).before 8 t d))
      iintro H; iexists _; iexact H

set_option maxHeartbeats 4000000 in
/-- The body at any point, from the carried buffers `s`. -/
theorem sound_at (c : Dev nD) (t : Fin cfg0.N) (s : Scr F) (hs : nextAt m c t s = scrAt m c t.val t.isLt) :
    iprop((scrOwns c scM0_0 scM0_1 scM0_2 scM0_3 scM0_4 scM0_5 s ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
      ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_all c t (grid0.coords t) rfl (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) ((dats m 0 c).before 8 t d8) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]
    · rw [show scrAt m c (t.val + 1 - 1) _ = next (grid0.coords t) (iblk m c 0 t) (iblk m c 1 t) (iblk m c 2 t) s from hs.symm]
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [show next (grid0.coords t) (iblk m c 0 t) (iblk m c 1 t) (iblk m c 2 t) s = scrAt m c t.val t.isLt from hs]
  iapply (leaves0_8 m c t d8)
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [PhiS_castSucc m c t, PhiS_zero m c _ _ hz, PhiA0_eq]
    iintro ⟨⟨⟨⟨%e0, HS0⟩, ⟨%e1, HS1⟩, ⟨%e2, HS2⟩, ⟨%e3, HS3⟩, ⟨%e4, HS4⟩, ⟨%e5, HS5⟩⟩, Hg⟩, Hr⟩
    iapply (sound_at m c t ⟨e0, e1, e2, e3, e4, e5⟩ ((nextAt_first m c t (by omega) _ _).trans (scrAt_first m c t (by omega)).symm))
    isplitl [HS0 HS1 HS2 HS3 HS4 HS5 Hg]
    · isplitl [HS0 HS1 HS2 HS3 HS4 HS5]
      · unfold scrOwns
        isplitl [HS0]; · iexact HS0
        isplitl [HS1]; · iexact HS1
        isplitl [HS2]; · iexact HS2
        isplitl [HS3]; · iexact HS3
        isplitl [HS4]; · iexact HS4
        iexact HS5
      iexact Hg
    iexact Hr
  · rw [PhiS_castSucc m c t, PhiS_pos m c _ _ hz]
    exact sound_at m c t _ (scrAt_pos m c _ t.isLt hz).symm

/-- The label's body is the kernel on its staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the carried buffers hold something. -/
theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 1024 := N_0; omega), PhiA0_eq]
  unfold scrOwns
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-! ## The run and the frame -/

set_option backward.isDefEq.respectTransparency.types false in
/-- Every run of the call ends with the arrays as the proof data says and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := _) (hQ' := fun _ h => h)

/-- Every run of the call ends with the arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame of the call: it ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.AttnIdeal.Gen
-- ==== Proof.AttnBlk.lean ====
module
public import proofs.«01_k».proof.Proof.AttnFrame
public import proofs.«01_k».proof.Proof.AttnMath
public import Idealize.ShloMosaic.Lib.Pointwise
public import Idealize.ShloMosaic.Lib.Pipeline.ValueKit
public import Idealize.ShloMosaic.Lib.Pipeline.Covers
@[expose] public section
namespace Cert.AttnIdeal.Rows
open Cert.AttnIdeal Cert.AttnIdeal.Gen Idealize.ShloMosaic Idealize.ShloMosaic.TcCoe Idealize.SL.Sem
set_option maxRecDepth 16384
/-! The blocks the attention's grid points stage, read from the argument arrays. -/

variable (m : (ℓ : Loc nD τ sig) → Buf (Elt Ideal) ℓ) (c : Dev nD)

/-- The two inner coordinates of a point: the block of queries and the block of keys. -/
theorem coords23 : ∀ t : Fin grid0.N, (grid0.coords t 2).val = t.val / 8 % 8 ∧ (grid0.coords t 3).val = t.val % 8 := by
  decide +kernel

/-- The index maps of the query, key, value and output windows. -/
theorem idxA : ∀ t : Fin cfg0.N, win0_0.index t 0 = t.val / 256 ∧ win0_0.index t 1 = t.val / 8 % 8 ∧ win0_0.index t 2 = t.val / 64 % 4
    ∧ win0_1.index t 0 = t.val / 256 ∧ win0_1.index t 1 = min (t.val % 8) (t.val / 8 % 8) ∧ win0_1.index t 2 = t.val / 64 % 4
    ∧ win0_2.index t 0 = t.val / 256 ∧ win0_2.index t 1 = min (t.val % 8) (t.val / 8 % 8) ∧ win0_2.index t 2 = t.val / 64 % 4
    ∧ win0_8.index t 0 = t.val / 256 ∧ win0_8.index t 1 = t.val / 8 % 8 ∧ win0_8.index t 2 = t.val / 64 % 4 := by
  decide +kernel

/-- The index maps of the small windows. -/
theorem idxB : ∀ t : Fin cfg0.N, win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0
    ∧ win0_7.index t 0 = 0 ∧ win0_7.index t 1 = 0 := by
  decide +kernel

theorem t_lt (t : Fin cfg0.N) : t.val < 1024 := lt_of_lt_of_eq t.isLt (show cfg0.N = 1024 from N_0)

/-- A point's batch, head, query position and key position. -/
def bOf (t : Fin cfg0.N) : Fin 4 := ⟨t.val / 256, by have := t_lt t; omega⟩
def hOf (t : Fin cfg0.N) : Fin 4 := ⟨t.val / 64 % 4, by omega⟩
def qpos (t : Fin cfg0.N) (r : Fin 512) : Fin 4096 := ⟨512 * (t.val / 8 % 8) + r.val, by omega⟩
def kpos (t : Fin cfg0.N) (r : Fin 512) : Fin 4096 := ⟨512 * min (t.val % 8) (t.val / 8 % 8) + r.val, by omega⟩

theorem blk0_at (t : Fin cfg0.N) (r : Fin 512) (x : Fin 128) : (iblk m c 0 t : FVec Ideal S1x512x128 .f32) (ix3 0 r x)
    = (V m c main_arg0 : FVec Ideal S4x4096x512 .f32) (ix3 (bOf t) (qpos t r) (AttnMath.col (hOf t) x)) := by
  blk_point [iblk, idxA t]
  all_goals (simp only [bOf, qpos, kpos, hOf, AttnMath.col] <;> omega)
theorem blk1_at (t : Fin cfg0.N) (r : Fin 512) (x : Fin 128) : (iblk m c 1 t : FVec Ideal S1x512x128 .f32) (ix3 0 r x)
    = (V m c main_arg1 : FVec Ideal S4x4096x512 .f32) (ix3 (bOf t) (kpos t r) (AttnMath.col (hOf t) x)) := by
  blk_point [iblk, idxA t]
  all_goals (simp only [bOf, qpos, kpos, hOf, AttnMath.col] <;> omega)
theorem blk2_at (t : Fin cfg0.N) (r : Fin 512) (x : Fin 128) : (iblk m c 2 t : FVec Ideal S1x512x128 .f32) (ix3 0 r x)
    = (V m c main_arg2 : FVec Ideal S4x4096x512 .f32) (ix3 (bOf t) (kpos t r) (AttnMath.col (hOf t) x)) := by
  blk_point [iblk, idxA t]
  all_goals (simp only [bOf, qpos, kpos, hOf, AttnMath.col] <;> omega)
theorem blk3_at (t : Fin cfg0.N) (d : Fin 64) : (iblk m c 3 t : FVec Ideal S1x64 .f32) (ix2 0 d)
    = (V m c main_arg3 : FVec Ideal S1x64 .f32) (ix2 0 d) := by
  blk_point [iblk, idxB t]
theorem blk4_at (t : Fin cfg0.N) (d : Fin 64) : (iblk m c 4 t : FVec Ideal S1x64 .f32) (ix2 0 d)
    = (V m c main_arg4 : FVec Ideal S1x64 .f32) (ix2 0 d) := by
  blk_point [iblk, idxB t]
theorem blk5_at (t : Fin cfg0.N) (d : Fin 64) : (iblk m c 5 t : FVec Ideal S1x64 .f32) (ix2 0 d)
    = (V m c main_arg5 : FVec Ideal S1x64 .f32) (ix2 0 d) := by
  blk_point [iblk, idxB t]
theorem blk6_at (t : Fin cfg0.N) (d : Fin 64) : (iblk m c 6 t : FVec Ideal S1x64 .f32) (ix2 0 d)
    = (V m c main_arg6 : FVec Ideal S1x64 .f32) (ix2 0 d) := by
  blk_point [iblk, idxB t]
theorem blk7_at (t : Fin cfg0.N) (e : Fin 128) : (iblk m c 7 t : FVec Ideal S1x128 .f32) (ix2 0 e)
    = (V m c main_arg7 : FVec Ideal S1x128 .f32) (ix2 0 e) := by
  blk_point [iblk, idxB t]

/-- An array whose blocks are `f`'s is `f`. -/
theorem place (X : FVec Ideal S4x4096x512 .f32)
    (h : ∀ (t : Fin cfg0.N) (r : Fin 512) (e : Fin 128), t.val % 8 = 7 →
      (outOf m c (diagOf t) : FVec Ideal S1x512x128 .f32) (ix3 0 r e) = X (ix3 (bOf t) (qpos t r) (AttnMath.col (hOf t) e))) :
    (dats m 0 c).arrAt 8 cfg0.N = X := by
  refine (dats m 0 c).arrAt_eq_of_covers 8 _ (by decide +kernel) fun t hf y => ?_
  rw [flushEq0_8] at hf
  have ht : t.val % 8 = 7 := of_decide_eq_true hf
  blk_simp
  rw [after0_8]
  idx_vars y
  obtain rfl : y0 = 0 := Subsingleton.elim _ _
  refine (h t y1 y2 ht).trans ?_
  blk_point [idxA t]
  all_goals (simp only [bOf, qpos, kpos, hOf, AttnMath.col] <;> omega)
end Cert.AttnIdeal.Rows
-- ==== Proof.AttnTraj.lean ====
module
public import proofs.«01_k».proof.Proof.AttnUpd
public import proofs.«01_k».proof.Proof.AttnFin
public import proofs.«01_k».proof.Proof.AttnBlk
@[expose] public section
namespace Cert.AttnIdeal.Rows
open Cert.AttnIdeal Cert.AttnIdeal.Gen Idealize.ShloMosaic Idealize.ShloMosaic.TcCoe Idealize.SL.Sem
open Cert.SoftRow (Run wt)
open Cert.AttnMath
set_option maxRecDepth 16384
/-! The carried buffers along a row of grid points, and the output array. -/

variable (m : (ℓ : Loc nD τ sig) → Buf (Elt Ideal) ℓ) (c : Dev nD)

/-- The two maps' rows stand for the weights of the first `n` positions. -/
def Holds (Q K W : Arr) (b h : Fin 4) (i : Fin 4096) (s : Scr Ideal) (r : Fin 512) (e : Fin 128) (n : ℕ) : Prop :=
  Run (s.m1 (ix2 r 0)) (s.l1 (ix2 r 0)) (s.a1 (ix2 r e)) (upto (w Q K b h 0 i) n) (upto (fun j => w Q K b h 0 i j * W b j (col h e)) n)
  ∧ Run (s.m2 (ix2 r 0)) (s.l2 (ix2 r 0)) (s.a2 (ix2 r e)) (upto (w Q K b h 1 i) n) (upto (fun j => w Q K b h 1 i j * W b j (col h e)) n)

section
variable (Q K W : Arr)
  (hq : ∀ b t l, (V m c main_arg0 : FVec Ideal S4x4096x512 .f32) (ix3 b t l) = ((Q b t l : ℝ) : EReal))
  (hk : ∀ b t l, (V m c main_arg1 : FVec Ideal S4x4096x512 .f32) (ix3 b t l) = ((K b t l : ℝ) : EReal))
  (hv : ∀ b t l, (V m c main_arg2 : FVec Ideal S4x4096x512 .f32) (ix3 b t l) = ((W b t l : ℝ) : EReal))
include hq hk hv

/-- One point on or below the diagonal: the rows take in the point's block of positions. -/
theorem upd_holds (t : Fin cfg0.N) (ht : t.val % 8 ≤ t.val / 8 % 8) (s : Scr Ideal) (r : Fin 512) (e : Fin 128)
    (hs : Holds Q K W (bOf t) (hOf t) (qpos t r) s r e (512 * (t.val % 8))) :
    Holds Q K W (bOf t) (hOf t) (qpos t r)
      (upd (BitVec.ofNat 32 (t.val / 8 % 8)) (BitVec.ofNat 32 (t.val % 8)) (iblk m c 0 t) (iblk m c 1 t) (iblk m c 2 t) s) r e
      (512 * (t.val % 8 + 1)) := by
  have hki : t.val % 8 < 8 := by omega
  have ek : ∀ c' : Fin 512, (⟨512 * (t.val % 8) + c'.val, by omega⟩ : Fin 4096) = kpos t c' := fun c' =>
    Fin.ext (by simp only [kpos, min_eq_left ht])
  have e0 : ∀ d : Fin 64, lane (hOf t) 0 d = col (hOf t) ⟨d.val, by omega⟩ := fun d => Fin.ext (by simp only [lane, col]; simp)
  have e1 : ∀ d : Fin 64, lane (hOf t) 1 d = col (hOf t) ⟨64 + d.val, by omega⟩ := fun d => Fin.ext (by simp only [lane, col]; simp; omega)
  have ew : ∀ (f : Fin 2) (c' : Fin 512), w Q K (bOf t) (hOf t) f (qpos t r) (kpos t c')
      = wt (512 * (t.val % 8) + c'.val ≤ 512 * (t.val / 8 % 8) + r.val)
          ((∑ d : Fin 64, Q (bOf t) (qpos t r) (lane (hOf t) f d) * K (bOf t) (kpos t c') (lane (hOf t) f d)) * (1 / 8)) := by
    intro f c'
    unfold w score
    have : (kpos t c').val ≤ (qpos t r).val ↔ 512 * (t.val % 8) + c'.val ≤ 512 * (t.val / 8 % 8) + r.val := by
      simp only [kpos, qpos, min_eq_left ht]
    unfold wt
    simp only [this]
  obtain ⟨h1, h2⟩ := hs
  refine ⟨?_, ?_⟩
  · have := upd_run1 (t.val / 8 % 8) (t.val % 8) (by omega) hki ht (iblk m c 0 t) (iblk m c 1 t) (iblk m c 2 t) s r e
      (fun x => Q (bOf t) (qpos t r) (col (hOf t) x)) (fun c' x => K (bOf t) (kpos t c') (col (hOf t) x))
      (fun c' => W (bOf t) (kpos t c') (col (hOf t) e))
      (fun x => (blk0_at m c t r x).trans (hq _ _ _)) (fun c' x => (blk1_at m c t c' x).trans (hk _ _ _))
      (fun c' => (blk2_at m c t c' e).trans (hv _ _ _)) h1
    rw [upto_block _ _ hki, upto_block _ _ hki]
    simp only [ek, ew, e0]
    exact this
  · have := upd_run2 (t.val / 8 % 8) (t.val % 8) (by omega) hki ht (iblk m c 0 t) (iblk m c 1 t) (iblk m c 2 t) s r e
      (fun x => Q (bOf t) (qpos t r) (col (hOf t) x)) (fun c' x => K (bOf t) (kpos t c') (col (hOf t) x))
      (fun c' => W (bOf t) (kpos t c') (col (hOf t) e))
      (fun x => (blk0_at m c t r x).trans (hq _ _ _)) (fun c' x => (blk1_at m c t c' x).trans (hk _ _ _))
      (fun c' => (blk2_at m c t c' e).trans (hv _ _ _)) h2
    rw [upto_block _ _ hki, upto_block _ _ hki]
    simp only [ek, ew, e1]
    exact this

omit hq hk hv in
/-- A point on or below the diagonal, of the carried buffers before it. -/
theorem nextAt_upd (t : Fin cfg0.N) (ht : t.val % 8 ≤ t.val / 8 % 8) (s : Scr Ideal) :
    nextAt m c t s = upd (BitVec.ofNat 32 (t.val / 8 % 8)) (BitVec.ofNat 32 (t.val % 8)) (iblk m c 0 t) (iblk m c 1 t) (iblk m c 2 t)
      (if t.val % 8 = 0 then start else s) := by
  unfold nextAt next
  rw [if_pos ((hcond0_1 t).mpr ht)]
  by_cases h : t.val % 8 = 0
  · rw [if_pos h, if_pos ((hcond0_0 t).mpr h), (coords23 t).1, (coords23 t).2]
  · rw [if_neg h, if_neg (fun h' => h ((hcond0_0 t).mp h')), (coords23 t).1, (coords23 t).2]

/-- Along a row of points, up to the diagonal: the positions of all the blocks so far. -/
theorem traj (R : ℕ) (hR : R < 128) (r : Fin 512) (e : Fin 128) : ∀ (k : ℕ) (hk' : k ≤ R % 8) (hn : 8 * R + k < cfg0.N),
    Holds Q K W (bOf ⟨8 * R + k, hn⟩) (hOf ⟨8 * R + k, hn⟩) (qpos ⟨8 * R + k, hn⟩ r) (scrAt m c (8 * R + k) hn) r e (512 * (k + 1)) := by
  intro k
  induction k with
  | zero =>
    intro hk' hn
    have hs := upd_holds m c Q K W hq hk hv ⟨8 * R + 0, hn⟩ (by simp only; omega) start r e
      ⟨by rw [show 512 * ((⟨8 * R + 0, hn⟩ : Fin cfg0.N).val % 8) = 0 by simp only; omega, upto_zero, upto_zero]; exact start_run1 r e,
       by rw [show 512 * ((⟨8 * R + 0, hn⟩ : Fin cfg0.N).val % 8) = 0 by simp only; omega, upto_zero, upto_zero]; exact start_run2 r e⟩
    have e1 : scrAt m c (8 * R + 0) hn = _ := scrAt_first m c ⟨8 * R + 0, hn⟩ (by simp only; omega)
    rw [e1, nextAt_upd m c _ (by simp only; omega), if_pos (by simp only; omega)]
    rw [show (8 * R + 0) % 8 = 0 by omega] at hs ⊢
    exact hs
  | succ k ih =>
    intro hk' hn
    have hp := ih (by omega) (by omega)
    have eb : bOf ⟨8 * R + k, by omega⟩ = bOf ⟨8 * R + (k + 1), hn⟩ := Fin.ext (by simp only [bOf]; omega)
    have eh : hOf ⟨8 * R + k, by omega⟩ = hOf ⟨8 * R + (k + 1), hn⟩ := Fin.ext (by simp only [hOf]; omega)
    have ep : qpos ⟨8 * R + k, by omega⟩ r = qpos ⟨8 * R + (k + 1), hn⟩ r := Fin.ext (by simp only [qpos]; omega)
    rw [eb, eh, ep] at hp
    have em : (8 * R + (k + 1)) % 8 = k + 1 := by omega
    have hs := upd_holds m c Q K W hq hk hv ⟨8 * R + (k + 1), hn⟩ (by simp only; omega) (scrAt m c (8 * R + k) (by omega)) r e
      (by simp only [em]; exact hp)
    have e1 : scrAt m c (8 * R + (k + 1)) hn = _ := scrAt_pos m c _ hn (by omega)
    rw [e1, nextAt_upd m c _ (by simp only; omega), if_neg (by simp only; omega)]
    simp only [em] at hs ⊢
    exact hs

/-- The output block of a row of points, of real operands. -/
theorem out_at (a1 b1 a2 b2 : FVec Ideal S1x64 .f32) (g : FVec Ideal S1x128 .f32)
    (h3 : V m c main_arg3 = a1) (h4 : V m c main_arg4 = b1) (h5 : V m c main_arg5 = a2) (h6 : V m c main_arg6 = b2)
    (h7 : V m c main_arg7 = g) (L : ℝ)
    (hL : AttnMath.lam (fun d => a1 (ix2 0 d)) (fun d => b1 (ix2 0 d)) (fun d => a2 (ix2 0 d)) (fun d => b2 (ix2 0 d)) = ((L : ℝ) : EReal))
    (t : Fin cfg0.N) (r : Fin 512) (e : Fin 128) :
    (outOf m c (diagOf t) : FVec Ideal S1x512x128 .f32) (ix3 0 r e)
      = normed (fun e => ((mix Q K W L (bOf t) (hOf t) (qpos t r) e : ℝ) : EReal)) (fun e => g (ix2 0 e)) e := by
  subst h3 h4 h5 h6 h7
  have ht := t_lt t
  have d8 : (8 * (t.val / 8) + t.val / 8 % 8) / 8 = t.val / 8 := by omega
  have d64 : (8 * (t.val / 8) + t.val / 8 % 8) / 64 = t.val / 64 := by
    rw [show 64 = 8 * 8 from rfl, ← Nat.div_div_eq_div_mul, ← Nat.div_div_eq_div_mul, d8]
  have d256 : (8 * (t.val / 8) + t.val / 8 % 8) / 256 = t.val / 256 := by
    rw [show 256 = 8 * 32 from rfl, ← Nat.div_div_eq_div_mul, ← Nat.div_div_eq_div_mul, d8]
  have eb : bOf (diagOf t) = bOf t := Fin.ext (by simp only [bOf, diagOf, d256])
  have eh : hOf (diagOf t) = hOf t := Fin.ext (by simp only [hOf, diagOf, d64])
  have ep : qpos (diagOf t) r = qpos t r := Fin.ext (by simp only [qpos, diagOf, d8])
  unfold outOf
  rw [fin_at]
  simp only [blk3_at, blk4_at, blk5_at, blk6_at, blk7_at, hL]
  congr 1
  funext e'
  obtain ⟨h1, h2⟩ := traj m c Q K W hq hk hv (t.val / 8) (by omega) r e' (t.val / 8 % 8) le_rfl (diagOf t).isLt
  change Run _ _ _ (upto (w Q K (bOf (diagOf t)) (hOf (diagOf t)) 0 (qpos (diagOf t) r)) _)
    (upto (fun j => w Q K (bOf (diagOf t)) (hOf (diagOf t)) 0 (qpos (diagOf t) r) j * W (bOf (diagOf t)) j (col (hOf (diagOf t)) e')) _) at h1
  change Run _ _ _ (upto (w Q K (bOf (diagOf t)) (hOf (diagOf t)) 1 (qpos (diagOf t) r)) _)
    (upto (fun j => w Q K (bOf (diagOf t)) (hOf (diagOf t)) 1 (qpos (diagOf t) r) j * W (bOf (diagOf t)) j (col (hOf (diagOf t)) e')) _) at h2
  rw [eb, eh, ep] at h1 h2
  have hz : ∀ (f : Fin 2) (j : Fin 4096), 512 * (t.val / 8 % 8 + 1) ≤ j.val → w Q K (bOf t) (hOf t) f (qpos t r) j = 0 := by
    intro f j hj
    unfold w wt
    rw [if_neg]
    simp only [qpos]
    omega
  rw [upto_all _ _ (by omega) (hz 0), upto_all _ _ (by omega) (fun j hj => by rw [hz 0 j hj, zero_mul])] at h1
  rw [upto_all _ _ (by omega) (hz 1), upto_all _ _ (by omega) (fun j hj => by rw [hz 1 j hj, zero_mul])] at h2
  have q1 := h1.quot (den_pos Q K (bOf t) (hOf t) 0 (qpos t r))
  have q2 := h2.quot (den_pos Q K (bOf t) (hOf t) 1 (qpos t r))
  have go : ∀ x y : EReal, x = ((num Q K W (bOf t) (hOf t) 0 (qpos t r) e' / den Q K (bOf t) (hOf t) 0 (qpos t r) : ℝ) : EReal) →
      y = ((num Q K W (bOf t) (hOf t) 1 (qpos t r) e' / den Q K (bOf t) (hOf t) 1 (qpos t r) : ℝ) : EReal) →
      x - ((L : ℝ) : EReal) * y = ((mix Q K W L (bOf t) (hOf t) (qpos t r) e' : ℝ) : EReal) := by
    rintro x y rfl rfl
    rw [← EReal.coe_mul, ← EReal.coe_sub]
    rfl
  exact go _ _ q1 q2
end

end Cert.AttnIdeal.Rows
-- ==== Proof.AttnPre.lean ====
module
public import proofs.«01_k».proof.Proof.Gen.Pre_attn_finite
public import Idealize.ShloMosaic.Lib.ReduceAll
public import Idealize.ShloMosaic.PureOps.Ideal
@[expose] public section
namespace Cert.AttnPre
open Cert.Pre_attn_finite Idealize.ShloMosaic
set_option maxRecDepth 16384
/-! What the attention's precondition says: every entry of its seven operands is a real number. -/

/-- The test of one array: every entry below plus infinity in absolute value. -/
noncomputable def small (s : Shape) (hb : S_.BroadcastsInDim s (![] : Fin 0 → Fin s.rank)) (x : FVec Ideal s .f32) : IVec s 1 :=
  cmpf .olt (Host.absf x) (broadcastInDim s ![] hb (constant S_ .f32 0x7F800000#32))

theorem inf_bits : Ideal.ofBits .f32 0x7F800000#32 = ⊤ := by simp [Ideal.ofBits, Ideal.ieee]

/-- An entry that passes the test is a real number. -/
theorem small_real (s : Shape) (hb : S_.BroadcastsInDim s (![] : Fin 0 → Fin s.rank)) (x : FVec Ideal s .f32) (i : s.Idx)
    (h : small s hb x i = 1#1) : (x i : EReal) = (((x i : EReal).toReal : ℝ) : EReal) := by
  have h' : Ideal.cmp .olt (max (x i : EReal) (-(x i : EReal))) (Ideal.ofBits .f32 0x7F800000#32) = 1#1 := h
  rw [inf_bits] at h'
  have hlt : max (x i : EReal) (-(x i : EReal)) < ⊤ := by
    by_contra hn
    simp [Ideal.cmp, hn] at h'
  rw [max_lt_iff] at hlt
  refine (EReal.coe_toReal hlt.1.ne ?_).symm
  intro hbot
  rw [hbot] at hlt
  simp at hlt

/-- The precondition gives the test of every one of the seven operands. -/
theorem fn_small (a0 a1 a2 : FVec Ideal S4x4096x512 .f32) (a3 a4 a5 a6 : FVec Ideal S1x64 .f32) (a7 : FVec Ideal S1x128 .f32)
    (h : fn (F := Ideal) a0 a1 a2 a3 a4 a5 a6 a7 = fun _ => 1#1) :
    (∀ i, small _ Facts.bcast_S_S4x4096x512 a0 i = 1#1) ∧ (∀ i, small _ Facts.bcast_S_S4x4096x512 a1 i = 1#1)
    ∧ (∀ i, small _ Facts.bcast_S_S4x4096x512 a2 i = 1#1) ∧ (∀ i, small _ Facts.bcast_S_S1x64 a3 i = 1#1)
    ∧ (∀ i, small _ Facts.bcast_S_S1x64 a4 i = 1#1) ∧ (∀ i, small _ Facts.bcast_S_S1x64 a5 i = 1#1)
    ∧ (∀ i, small _ Facts.bcast_S_S1x64 a6 i = 1#1) := by
  have hs : Subsingleton S_.Idx := ⟨fun a b => funext fun x => x.elim0⟩
  have h0 := congrFun h (fun x => x.elim0)
  have split : ∀ (p q : IVec S_ 1) (j : S_.Idx), andi p q j = 1#1 → p j = 1#1 ∧ q j = 1#1 := fun p q j hj => IntOp.andi_eq_one.mp hj
  unfold fn fn_part1 at h0
  obtain ⟨h0, h6⟩ := split _ _ _ h0
  obtain ⟨h0, h5⟩ := split _ _ _ h0
  obtain ⟨h0, h4⟩ := split _ _ _ h0
  obtain ⟨h0, h3⟩ := split _ _ _ h0
  obtain ⟨h0, h2⟩ := split _ _ _ h0
  obtain ⟨h0, h1⟩ := split _ _ _ h0
  exact ⟨Host.reduce_andi_all _ _ _ _ _ h0, Host.reduce_andi_all _ _ _ _ _ h1, Host.reduce_andi_all _ _ _ _ _ h2,
    Host.reduce_andi_all _ _ _ _ _ h3, Host.reduce_andi_all _ _ _ _ _ h4, Host.reduce_andi_all _ _ _ _ _ h5,
    Host.reduce_andi_all _ _ _ _ _ h6⟩

end Cert.AttnPre
-- ==== Proof.AttnRefRow.lean ====
module
public import proofs.«01_k».proof.Proof.Gen.AttnRefIdeal.Run
public import proofs.«01_k».proof.Proof.AttnMath
public import Idealize.ShloMosaic.Lib.WordCmp
@[expose] public section
namespace Cert.AttnRefIdeal.Rows
open Cert.AttnRefIdeal Cert.AttnRefIdeal.Gen Idealize.ShloMosaic Idealize.ShloMosaic.TcCoe Idealize.SL.Sem
set_option maxRecDepth 16384
/-! The reference's attention, read entry by entry. -/

/-- The masked scores. -/
noncomputable def masked (q k : FVec Ideal S4x4096x512 .f32) : FVec Ideal S4x4x2x4096x4096 .f32 :=
  select (broadcastInDim S4x4x2x4096x4096 ![3, 4] bcast_S4096x4096_S4x4x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (Host.dotGeneral dot_S4x4096x4x2x64_S4x4096x4x2x64_S4x4x2x4096x4096_4_4_1_1_023_023 none (shapeCast S4x4096x4x2x64 q shapeCasts_S4x4096x512_S4x4096x4x2x64) (shapeCast S4x4096x4x2x64 k shapeCasts_S4x4096x512_S4x4096x4x2x64)) (broadcastInDim S4x4x2x4096x4096 ![] bcast_S_S4x4x2x4096x4096 (constant S_ .f32 0x3E000000#32)))
    (broadcastInDim S4x4x2x4096x4096 ![] bcast_S_S4x4x2x4096x4096 (id (constant S_ .f32 0xFF800000#32)))

/-- The maxima of an array's rows. -/
noncomputable def rmax (x : FVec Ideal S4x4x2x4096x4096 .f32) : FVec Ideal S4x4x2x4096 .f32 :=
  Host.reduce FloatOps.maximumf x (constant S_ .f32 0xFF800000#32) reducesTo_S4x4x2x4096x4096_S4x4x2x4096_d4 h_S_

/-- The exponentials of an array shifted by given row maxima. -/
noncomputable def shifted (x : FVec Ideal S4x4x2x4096x4096 .f32) (y : FVec Ideal S4x4x2x4096 .f32) : FVec Ideal S4x4x2x4096x4096 .f32 :=
  Host.exp (subf x (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) y))))

/-- The exponentials of an array shifted by its rows' maxima. -/
noncomputable def expo (x : FVec Ideal S4x4x2x4096x4096 .f32) : FVec Ideal S4x4x2x4096x4096 .f32 := shifted x (rmax x)

/-- The softmax of an array's rows. -/
noncomputable def soft (x : FVec Ideal S4x4x2x4096x4096 .f32) : FVec Ideal S4x4x2x4096x4096 .f32 :=
  Host.divf (expo x) (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd (expo x) (constant S_ .f32 0x00000000#32) reducesTo_S4x4x2x4096x4096_S4x4x2x4096_d4 h_S_)))

/-- The weight of the second map. -/
noncomputable def lamS (a1 b1 a2 b2 : FVec Ideal S1x64 .f32) : FVec Ideal S_ .f32 :=
  addf (subf (Host.exp (Host.reduceAdd (mulf (shapeCast S64 a1 shapeCasts_S1x64_S64) (shapeCast S64 b1 shapeCasts_S1x64_S64)) (constant S_ .f32 0x00000000#32) reducesTo_S64_S_d0 h_S_)) (Host.exp (Host.reduceAdd (mulf (shapeCast S64 a2 shapeCasts_S1x64_S64) (shapeCast S64 b2 shapeCasts_S1x64_S64)) (constant S_ .f32 0x00000000#32) reducesTo_S64_S_d0 h_S_))) (constant S_ .f32 0x3E4CCCCD#32)

/-- The two maps' difference against the values. -/
noncomputable def mixed (p : FVec Ideal S4x4x2x4096x4096 .f32) (l : FVec Ideal S_ .f32) (v : FVec Ideal S4x4096x512 .f32) :
    FVec Ideal S4x4096x4x128 .f32 :=
  transpose S4x4096x4x128 [0, 3, 1, 2] (Host.dotGeneral dot_S4x4096x4x128_S4x4x4096x4096_S4x4x128x4096_1_3_3_2_02_01 none (shapeCast S4x4096x4x128 v shapeCasts_S4x4096x512_S4x4096x4x128) (subf (shapeCast S4x4x4096x4096 (extractStridedSlice S4x4x1x4096x4096 ![0, 0, 0, 0, 0] p slices_S4x4x2x4096x4096_S4x4x1x4096x4096_0_0_0_0_0) shapeCasts_S4x4x1x4096x4096_S4x4x4096x4096) (mulf (broadcastInDim S4x4x4096x4096 ![] bcast_S_S4x4x4096x4096 l) (shapeCast S4x4x4096x4096 (extractStridedSlice S4x4x1x4096x4096 ![0, 0, 1, 0, 0] p slices_S4x4x2x4096x4096_S4x4x1x4096x4096_0_0_1_0_0) shapeCasts_S4x4x1x4096x4096_S4x4x4096x4096)))) transposes_S4x4x128x4096_S4x4096x4x128_0_3_1_2

/-- The norm and the scale of the heads' outputs. -/
noncomputable def normA (o : FVec Ideal S4x4096x4x128 .f32) (g : FVec Ideal S1x128 .f32) : FVec Ideal S4x4096x512 .f32 :=
  shapeCast S4x4096x512 (mulf (mulf (mulf o (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast S128 g shapeCasts_S1x128_S128)))) (broadcastInDim S4x4096x4x128 ![] bcast_S_S4x4096x4x128 (constant S_ .f32 0x3F4CCCCD#32))) shapeCasts_S4x4096x4x128_S4x4096x512

/-- The reference's result, stage by stage. -/
theorem res_eq (m : (ℓ : Loc nD τ sig) → Buf (Elt Ideal) ℓ) (c : Dev nD) :
    Value.res_main_v61 (F := Ideal) m c = normA (mixed (soft (masked (m ((c.tc : Thread nD τ).loc main_arg0)) (m ((c.tc : Thread nD τ).loc main_arg1))))
      (lamS (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg2))) (m ((c.tc : Thread nD τ).loc main_arg7)) := by
  unfold Value.res_main_v61
  rfl

theorem lamS_at (a1 b1 a2 b2 : FVec Ideal S1x64 .f32) (y : S_.Idx) :
    lamS a1 b1 a2 b2 y = AttnMath.lam (fun d => a1 (ix2 0 d)) (fun d => b1 (ix2 0 d)) (fun d => a2 (ix2 0 d)) (fun d => b2 (ix2 0 d)) := by
  unfold AttnMath.lam
  pointwise [lamS]

theorem normA_at (o : FVec Ideal S4x4096x4x128 .f32) (g : FVec Ideal S1x128 .f32) (b : Fin 4) (i : Fin 4096) (l : Fin 512) :
    normA o g (ix3 b i l) = AttnMath.normed (fun e => o (ix4 b i ⟨l.val / 128, by omega⟩ e)) (fun e => g (ix2 0 e)) ⟨l.val % 128, by omega⟩ := by
  unfold AttnMath.normed
  pointwise [normA]

theorem mixed_at (p : FVec Ideal S4x4x2x4096x4096 .f32) (l : FVec Ideal S_ .f32) (v : FVec Ideal S4x4096x512 .f32)
    (b h : Fin 4) (i : Fin 4096) (e : Fin 128) :
    mixed p l v (ix4 b i h e) = ∑ j, v (ix3 b j (AttnMath.col h e)) * (p (ix5 b h 0 i j) - l ix0 * p (ix5 b h 1 i j)) := by
  pointwise [mixed]
  refine Finset.sum_congr rfl fun x _ => ?_
  rw [show (⟨h.val * 128 + e.val, by omega⟩ : Fin 512) = AttnMath.col h e from Fin.ext (by simp only [AttnMath.col]; omega)]

/-- The literal below every score. -/
theorem bot_bits : Ideal.ofBits FTy.f32 0xFF800000#32 = (⊥ : EReal) := by
  simp [Ideal.ofBits, Ideal.ieee]

theorem shifted_at (x : FVec Ideal S4x4x2x4096x4096 .f32) (y : FVec Ideal S4x4x2x4096 .f32) (b h : Fin 4) (c : Fin 2) (i j : Fin 4096) :
    shifted x y (ix5 b h c i j) = Ideal.exp (x (ix5 b h c i j) - max (Ideal.ofBits FTy.f32 0xFF800000#32) (y (ix4 b h c i))) := by
  pointwise [shifted]

theorem soft_at (x : FVec Ideal S4x4x2x4096x4096 .f32) (b h : Fin 4) (c : Fin 2) (i j : Fin 4096) :
    soft x (ix5 b h c i j) = Ideal.div (expo x (ix5 b h c i j)) (∑ j, expo x (ix5 b h c i j)) := by
  unfold soft
  generalize expo x = y
  pointwise []

theorem masked_at (q k : FVec Ideal S4x4096x512 .f32) (b h : Fin 4) (c : Fin 2) (i j : Fin 4096) :
    masked q k (ix5 b h c i j) = if j.val ≤ i.val then
      (∑ d : Fin 64, q (ix3 b i (AttnMath.lane h c d)) * k (ix3 b j (AttnMath.lane h c d))) * Ideal.ofBits FTy.f32 0x3E000000#32 else ⊥ := by
  pointwise [masked]
  rw [WordCmp.cmpi_sle_eq, WordCmp.toInt_ofNat_of_lt (by omega), WordCmp.toInt_ofNat_of_lt (by omega)]
  have e : ∀ d : Fin 64, (⟨h.val * 128 + c.val * 64 + d.val, by omega⟩ : Fin 512) = AttnMath.lane h c d :=
    fun d => Fin.ext (by simp only [AttnMath.lane]; omega)
  have eb : (id (constant (F := Ideal) S_ FTy.f32 4286578688#32) ix0 : EReal) = ⊥ := bot_bits
  rw [eb]
  simp only [Nat.cast_le, e]
  by_cases hj : j.val ≤ i.val <;> simp [hj, Scalar.select]
end Cert.AttnRefIdeal.Rows
-- ==== Proof.AttnRefValue.lean ====
module
public import proofs.«01_k».proof.Proof.AttnRefRow
@[expose] public section
namespace Cert.AttnRefIdeal.Rows
open Cert.AttnRefIdeal Cert.AttnRefIdeal.Gen Idealize.ShloMosaic Idealize.ShloMosaic.TcCoe Idealize.SL.Sem
open Cert.AttnMath Cert.SoftRow
set_option maxRecDepth 16384
/-! The reference's attention of real operands. -/

theorem rmax_at (x : FVec Ideal S4x4x2x4096x4096 .f32) (b h : Fin 4) (c : Fin 2) (i : Fin 4096) :
    rmax x (ix4 b h c i) = Finset.fold max (Ideal.ofBits FTy.f32 0xFF800000#32) (fun j => x (ix5 b h c i j)) Finset.univ := by
  pointwise [rmax]

theorem expo_at (x : FVec Ideal S4x4x2x4096x4096 .f32) (b h : Fin 4) (c : Fin 2) (i j : Fin 4096) :
    expo x (ix5 b h c i j) = Ideal.exp (x (ix5 b h c i j) - Finset.fold max (⊥ : EReal) (fun j => x (ix5 b h c i j)) Finset.univ) := by
  unfold expo
  rw [shifted_at, rmax_at, bot_bits, max_eq_right bot_le]

section
variable (q k v : FVec Ideal S4x4096x512 .f32) (Q K V : Arr)
  (hq : ∀ b t l, q (ix3 b t l) = ((Q b t l : ℝ) : EReal)) (hk : ∀ b t l, k (ix3 b t l) = ((K b t l : ℝ) : EReal))
  (hv : ∀ b t l, v (ix3 b t l) = ((V b t l : ℝ) : EReal))

include hq hk in
theorem masked_real (b h : Fin 4) (c : Fin 2) (i j : Fin 4096) :
    masked q k (ix5 b h c i j) = if j.val ≤ i.val then ((score Q K b h c i j : ℝ) : EReal) else ⊥ := by
  rw [masked_at]
  congr 1
  unfold score
  rw [eighth, EReal.coe_mul, ← coe_sum]
  congr 1
  exact Finset.sum_congr rfl fun d _ => by rw [hq, hk, EReal.coe_mul]

include hq hk in
/-- An entry of the reference's softmax: the causal weight over the weights' sum. -/
theorem soft_real (b h : Fin 4) (c : Fin 2) (i j : Fin 4096) :
    soft (masked q k) (ix5 b h c i j) = ((w Q K b h c i j / den Q K b h c i : ℝ) : EReal) := by
  rw [soft_at]
  simp only [expo_at]
  exact direct (fun j : Fin 4096 => j.val ≤ i.val) (fun j => score Q K b h c i j) (fun j => masked q k (ix5 b h c i j))
    (fun j => masked_real q k Q K hq hk b h c i j) ⟨i, le_rfl⟩ j

include hq hk hv in
/-- The reference's head output before the norm. -/
theorem mixed_real (l : FVec Ideal S_ .f32) (L : ℝ) (hl : l ix0 = ((L : ℝ) : EReal)) (b h : Fin 4) (i : Fin 4096) (e : Fin 128) :
    mixed (soft (masked q k)) l v (ix4 b i h e) = ((mix Q K V L b h i e : ℝ) : EReal) := by
  have hm : mix Q K V L b h i e = ∑ j, V b j (col h e) * (w Q K b h 0 i j / den Q K b h 0 i - L * (w Q K b h 1 i j / den Q K b h 1 i)) := by
    unfold mix num
    rw [Finset.sum_div, Finset.sum_div, Finset.mul_sum, ← Finset.sum_sub_distrib]
    exact Finset.sum_congr rfl fun j _ => by ring
  rw [mixed_at, hm, ← coe_sum]
  refine Finset.sum_congr rfl fun j _ => ?_
  rw [soft_real q k Q K hq hk, soft_real q k Q K hq hk, hl, hv, ← EReal.coe_mul, ← EReal.coe_sub, ← EReal.coe_mul]

include hq hk hv in
/-- The reference's result of real operands, entry by entry. -/
theorem ref_at (a1 b1 a2 b2 : FVec Ideal S1x64 .f32) (g : FVec Ideal S1x128 .f32) (L : ℝ)
    (hL : AttnMath.lam (fun d => a1 (ix2 0 d)) (fun d => b1 (ix2 0 d)) (fun d => a2 (ix2 0 d)) (fun d => b2 (ix2 0 d)) = ((L : ℝ) : EReal))
    (b : Fin 4) (i : Fin 4096) (l : Fin 512) :
    normA (mixed (soft (masked q k)) (lamS a1 b1 a2 b2) v) g (ix3 b i l) =
      normed (fun e => ((mix Q K V L b ⟨l.val / 128, by omega⟩ i e : ℝ) : EReal)) (fun e => g (ix2 0 e)) ⟨l.val % 128, by omega⟩ := by
  rw [normA_at]
  congr 1
  funext e
  exact mixed_real q k v Q K V hq hk hv _ L ((lamS_at a1 b1 a2 b2 ix0).trans hL) b _ i e
end
end Cert.AttnRefIdeal.Rows
-- ==== Proof.AttnClaims.lean ====
module
public import proofs.«01_k».proof.Proof.AttnTraj
public import proofs.«01_k».proof.Proof.AttnPre
public import proofs.«01_k».proof.Proof.AttnRefValue
public import proofs.«01_k».proof.Proof.AttnBitsFrame
public import proofs.«01_k».proof.Defs
@[expose] public section
set_option maxRecDepth 16384
/-! The claims of the prompt's attention. -/
namespace Cert.Proof.Attn
open Idealize.ShloMosaic Idealize.ShloMosaic.TcCoe Idealize.SL.Sem
open Cert.AttnMath (mix normed Arr)

/-- The kernel as lowered runs to its end and leaves its arguments unchanged. -/
theorem frame_bits : Cert.quiescent_Attn := fun m ρ _ => Cert.Attn.Gen.frame m ρ
/-- The kernel over the ideal floats runs to its end and leaves its arguments unchanged. -/
theorem frame_ideal : Cert.quiescent_AttnIdeal := fun m ρ _ => Cert.AttnIdeal.Gen.frame m ρ
/-- The same under the precondition. -/
theorem frame_ideal_pre : Cert.quiescent_AttnIdeal_pre_attn_finite := fun m ρ _ => Cert.AttnIdeal.Gen.frame m ρ
/-- The reference runs to its end and leaves its arguments unchanged. -/
theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
/-- The same under the precondition. -/
theorem frame_ref_pre : Cert.quiescent_AttnRefIdeal_pre_attn_finite := fun m ρ _ => frame_ref m ρ trivial

/-- The one rewrite of the kernel: its mask constant is read as minus infinity. -/
theorem preserves : Cert.preserves_Attn_AttnIdeal :=
  IdealRules.named_const.statement Cert.AttnIdeal.κ "mask" .f32 0xF149F2CA#32 ⊥ rfl

section
open Cert.AttnIdeal Cert.AttnIdeal.Gen

/-- A real array's entries as coordinates. -/
noncomputable def arr (x : FVec Ideal S4x4096x512 .f32) : Arr := fun b t l => (x (ix3 b t l) : EReal).toReal

/-- The attention's result as one formula of its operands. -/
noncomputable def val (q k v : FVec Ideal S4x4096x512 .f32) (L : ℝ) (g : FVec Ideal S1x128 .f32) : FVec Ideal S4x4096x512 .f32 := fun y =>
  normed (fun e => ((mix (arr q) (arr k) (arr v) L (y 0) ⟨(y 2).val / 128, by have : (y 2).val < 512 := (y 2).isLt; omega⟩ (y 1) e : ℝ) : EReal))
    (fun e => g (ix2 0 e)) ⟨(y 2).val % 128, by omega⟩

/-- The kernel's output array, of real operands. -/
theorem kernel_val (m : (ℓ : Loc nD τ sig) → Buf (Elt Ideal) ℓ) (c : Dev nD)
    (q k v : FVec Ideal S4x4096x512 .f32) (a1 b1 a2 b2 : FVec Ideal S1x64 .f32) (g : FVec Ideal S1x128 .f32)
    (e0 : V m c main_arg0 = q) (e1 : V m c main_arg1 = k) (e2 : V m c main_arg2 = v)
    (e3 : V m c main_arg3 = a1) (e4 : V m c main_arg4 = b1) (e5 : V m c main_arg5 = a2) (e6 : V m c main_arg6 = b2) (e7 : V m c main_arg7 = g)
    (hq : ∀ i, (q i : EReal) = ((q i : EReal).toReal : ℝ)) (hk : ∀ i, (k i : EReal) = ((k i : EReal).toReal : ℝ))
    (hv : ∀ i, (v i : EReal) = ((v i : EReal).toReal : ℝ)) (L : ℝ)
    (hL : AttnMath.lam (fun d => a1 (ix2 0 d)) (fun d => b1 (ix2 0 d)) (fun d => a2 (ix2 0 d)) (fun d => b2 (ix2 0 d)) = ((L : ℝ) : EReal)) :
    (dats m 0 c).arrAt 8 cfg0.N = val q k v L g := by
  refine Rows.place m c _ fun t r e ht => ?_
  rw [Rows.out_at m c (arr q) (arr k) (arr v) (fun b t l => by rw [e0]; exact hq _) (fun b t l => by rw [e1]; exact hk _)
    (fun b t l => by rw [e2]; exact hv _) a1 b1 a2 b2 g e3 e4 e5 e6 e7 L hL]
  have hh : (⟨(AttnMath.col (Rows.hOf t) e).val / 128, by have := (AttnMath.col (Rows.hOf t) e).isLt; omega⟩ : Fin 4) = Rows.hOf t :=
    Fin.ext (by simp only [AttnMath.col]; omega)
  have he : (⟨(AttnMath.col (Rows.hOf t) e).val % 128, by omega⟩ : Fin 128) = e := Fin.ext (by simp only [AttnMath.col]; omega)
  show _ = normed (fun e' => ((mix (arr q) (arr k) (arr v) L (Rows.bOf t) ⟨(AttnMath.col (Rows.hOf t) e).val / 128, _⟩ (Rows.qpos t r) e' : ℝ) : EReal))
    (fun e => g (ix2 0 e)) ⟨(AttnMath.col (Rows.hOf t) e).val % 128, _⟩
  rw [hh, he]

/-- Real entries make the mixing number real. -/
theorem lam_of (a1 b1 a2 b2 : FVec Ideal S1x64 .f32) (h1 : ∀ i, (a1 i : EReal) = ((a1 i : EReal).toReal : ℝ))
    (h2 : ∀ i, (b1 i : EReal) = ((b1 i : EReal).toReal : ℝ)) (h3 : ∀ i, (a2 i : EReal) = ((a2 i : EReal).toReal : ℝ))
    (h4 : ∀ i, (b2 i : EReal) = ((b2 i : EReal).toReal : ℝ)) :
    ∃ L : ℝ, AttnMath.lam (fun d => a1 (ix2 0 d)) (fun d => b1 (ix2 0 d)) (fun d => a2 (ix2 0 d)) (fun d => b2 (ix2 0 d)) = ((L : ℝ) : EReal) := by
  obtain ⟨L, hL⟩ := AttnMath.lam_real (fun d => (a1 (ix2 0 d) : EReal).toReal) (fun d => (b1 (ix2 0 d) : EReal).toReal)
    (fun d => (a2 (ix2 0 d) : EReal).toReal) (fun d => (b2 (ix2 0 d) : EReal).toReal)
  refine ⟨L, ?_⟩
  rw [← hL]
  congr 1 <;> funext d
  · exact h1 _
  · exact h2 _
  · exact h3 _
  · exact h4 _
end

/-- The kernel's array is the reference's, over the ideal floats, of real operands. -/
theorem algebraic : Cert.algebraic_AttnIdeal_AttnRefIdeal_pre_attn_finite := by
  intro m ρ m' ρ' hpre hag
  have hs := fun c => AttnPre.fn_small _ _ _ _ _ _ _ _ (hpre c)
  have hlam := fun c => lam_of _ _ _ _ (fun i => AttnPre.small_real _ _ _ i ((hs c).2.2.2.1 i)) (fun i => AttnPre.small_real _ _ _ i ((hs c).2.2.2.2.1 i))
    (fun i => AttnPre.small_real _ _ _ i ((hs c).2.2.2.2.2.1 i)) (fun i => AttnPre.small_real _ _ _ i ((hs c).2.2.2.2.2.2 i))
  choose L hL using hlam
  have hq := fun c i => AttnPre.small_real _ _ _ i ((hs c).1 i)
  have hk := fun c i => AttnPre.small_real _ _ _ i ((hs c).2.1 i)
  have hv := fun c i => AttnPre.small_real _ _ _ i ((hs c).2.2.1 i)
  refine ⟨fun c => val (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2)) (L c)
    (m ((c.tc : Thread Cert.AttnIdeal.nD Cert.AttnIdeal.τ).loc Cert.AttnIdeal.main_arg7)), ?_, ?_⟩
  · have kv := fun c => kernel_val m c _ _ _ _ _ _ _ _ (Cert.AttnIdeal.Gen.V_main_arg0 m c) (Cert.AttnIdeal.Gen.V_main_arg1 m c)
      (Cert.AttnIdeal.Gen.V_main_arg2 m c) (Cert.AttnIdeal.Gen.V_main_arg3 m c) (Cert.AttnIdeal.Gen.V_main_arg4 m c)
      (Cert.AttnIdeal.Gen.V_main_arg5 m c) (Cert.AttnIdeal.Gen.V_main_arg6 m c) (Cert.AttnIdeal.Gen.V_main_arg7 m c)
      (hq c) (hk c) (hv c) (L c) (hL c)
    exact (θ_run Cert.AttnIdeal.defs _ _).mono (fun _ h c => ⟨((h.1 c).1 8).trans (kv c), h.2.1 c⟩)
      (θ_run_and (Cert.AttnIdeal.Gen.run_main m ρ) (Cert.AttnIdeal.Gen.frame m ρ))
  · refine (θ_run Cert.AttnRefIdeal.defs _ _).mono (fun _ h c => ⟨(h c).1.trans ?_, (h c).2⟩)
      (Cert.AttnRefIdeal.Value.run (F := Ideal) m' ρ')
    obtain ⟨a0, a1, a2, a3, a4, a5, a6, a7⟩ := hag c
    rw [AttnRefIdeal.Rows.res_eq, a0, a1, a2, a3, a4, a5, a6, a7]
    funext y
    idx_vars y
    refine (AttnRefIdeal.Rows.ref_at _ _ _ (arr _) (arr _) (arr _) (fun b t l => hq c (ix3 b t l)) (fun b t l => hk c (ix3 b t l))
      (fun b t l => hv c (ix3 b t l)) _ _ _ _ _ (L c) (hL c) y0 y1 y2).trans ?_
    rfl

end Cert.Proof.Attn
-- ==== Proof.RowMath.lean ====
module
public import Idealize.ShloMosaic.Lib.Pointwise
@[expose] public section
/-! The layer's input projection on one row, over the ideal floats: what both the kernel and the reference are shown to
    compute for every row. -/
namespace Cert.RowMath
open Idealize.ShloMosaic

/-- One entry of the projection: the row `x`, root-mean-square normalised and scaled by `g`, against one column `w`. -/
noncomputable def dotRow (x g w : Fin 1024 → EReal) : EReal :=
  ∑ j, x j * Ideal.rsqrt (Ideal.div (∑ i, x i * x i) (Ideal.ofBits FTy.f32 0x44800000#32) +
    Ideal.ofBits FTy.f32 0x358637BD#32) * g j * w j

/-- The rotation angle of frequency `d` at position `p`. -/
noncomputable def angle (p : EReal) (d : Nat) : EReal :=
  p * Ideal.pow (Ideal.ofBits FTy.f32 0x461C4000#32)
    (Ideal.div (-((((BitVec.ofNat 32 d).toInt : ℝ) : EReal))) (Ideal.ofBits FTy.f32 0x42000000#32))

/-- The lane a lane is rotated with: the other half of its 64-lane head. -/
def partner (l : Fin 512) : Fin 512 :=
  ⟨if l.val % 64 < 32 then l.val + 32 else l.val - 32, by split <;> omega⟩

/-- The rotary embedding of a row `t` at position `p`, read at lane `l`. -/
noncomputable def ropeAt (t : Fin 512 → EReal) (p : EReal) (l : Fin 512) : EReal :=
  t l * Ideal.cos (angle p (l.val % 32))
    + t (partner l) * (if l.val % 64 < 32 then -Ideal.sin (angle p (l.val % 32)) else Ideal.sin (angle p (l.val % 32)))

/-- `ropeAt` as the two halves of a head stated apart: the first half less the second's sine, the second plus the
    first's. -/
theorem ropeAt_eq (t : Fin 512 → EReal) (p : EReal) (l : Fin 512) :
    ropeAt t p l = if _ : l.val % 64 < 32 then
        t l * Ideal.cos (angle p (l.val % 64))
          - t ⟨l.val / 128 * 128 + l.val / 64 % 2 * 64 + (32 + l.val % 64), by omega⟩ * Ideal.sin (angle p (l.val % 64))
      else
        t ⟨l.val / 128 * 128 + l.val / 64 % 2 * 64 + (l.val % 64 - 32), by omega⟩ * Ideal.sin (angle p (l.val % 64 - 32))
          + t ⟨l.val / 128 * 128 + l.val / 64 % 2 * 64 + (32 + (l.val % 64 - 32)), by omega⟩
            * Ideal.cos (angle p (l.val % 64 - 32)) := by
  unfold ropeAt
  by_cases h : l.val % 64 < 32
  · have h1 : l.val % 32 = l.val % 64 := by omega
    have h2 : (⟨l.val / 128 * 128 + l.val / 64 % 2 * 64 + (32 + l.val % 64), by omega⟩ : Fin 512) = partner l :=
      Fin.ext (show l.val / 128 * 128 + l.val / 64 % 2 * 64 + (32 + l.val % 64)
        = if l.val % 64 < 32 then l.val + 32 else l.val - 32 by rw [if_pos h]; omega)
    rw [dif_pos h, h2, h1]
    simp only [if_pos h, sub_eq_add_neg, mul_neg]
  · have h1 : l.val % 32 = l.val % 64 - 32 := by omega
    have h2 : (⟨l.val / 128 * 128 + l.val / 64 % 2 * 64 + (l.val % 64 - 32), by omega⟩ : Fin 512) = partner l :=
      Fin.ext (show l.val / 128 * 128 + l.val / 64 % 2 * 64 + (l.val % 64 - 32)
        = if l.val % 64 < 32 then l.val + 32 else l.val - 32 by rw [if_neg h]; omega)
    have h3 : (⟨l.val / 128 * 128 + l.val / 64 % 2 * 64 + (32 + (l.val % 64 - 32)), by omega⟩ : Fin 512) = l :=
      Fin.ext (show l.val / 128 * 128 + l.val / 64 % 2 * 64 + (32 + (l.val % 64 - 32)) = l.val by omega)
    rw [dif_neg h, h2, h3, h1]
    simp only [if_neg h, add_comm]

end Cert.RowMath
-- ==== Proof.InProjRef.lean ====
module
public import proofs.«01_k».proof.Proof.Gen.InProjPRefIdeal.Run
public import proofs.«01_k».proof.Proof.RowMath
@[expose] public section
namespace Cert.InProjPRefIdeal.Rows
open Cert.InProjPRefIdeal Cert.InProjPRefIdeal.Gen Idealize.ShloMosaic Idealize.ShloMosaic.TcCoe Idealize.SL.Sem
set_option maxRecDepth 16384

/-- The reference's projection array, of its three arguments. -/
noncomputable def proj (x : FVec Ideal S4x4096x1024 .f32) (g : FVec Ideal S1x1024 .f32) (w : FVec Ideal S1x1024x3328 .f32) :
    FVec Ideal S4x4096x3328 .f32 :=
  Host.dotGeneral dot_S4x4096x1024_S1024x3328_S4x4096x3328_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 g shapeCasts_S1x1024_S1024)))) (shapeCast S1024x3328 w shapeCasts_S1x1024x3328_S1024x3328)

theorem proj_at (x : FVec Ideal S4x4096x1024 .f32) (g : FVec Ideal S1x1024 .f32) (w : FVec Ideal S1x1024x3328 .f32)
    (b : Fin 4) (t : Fin 4096) (k : Fin 3328) :
    proj x g w (ix3 b t k) = RowMath.dotRow (fun j => x (ix3 b t j)) (fun j => g (ix2 0 j)) (fun j => w (ix3 0 j k)) := by
  unfold RowMath.dotRow
  pointwise [proj]

/-- The reference's table of angles, by position and frequency. -/
noncomputable def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem ang_at (t : Fin 4096) (d : Fin 32) :
    ang (ix2 t d) = RowMath.angle (((BitVec.ofNat 32 t.val).toInt : ℝ) : EReal) d.val := by
  unfold RowMath.angle
  pointwise [ang]
  rfl

/-- A table of the reference spread over batch, head and map. -/
noncomputable def spread (a : FVec Ideal S4096x32 .f32) : FVec Ideal S4x4096x4x2x32 .f32 :=
  broadcastInDim S4x4096x4x2x32 ![0, 1, 2, 3, 4] bcast_S1x4096x1x1x32_S4x4096x4x2x32_0_1_2_3_4 (broadcastInDim S1x4096x1x1x32 ![1, 4] bcast_S4096x32_S1x4096x1x1x32_1_4 a)

/-- The reference's rotary embedding of a 512-lane array, heads flattened. -/
noncomputable def rope (p : FVec Ideal S4x4096x512 .f32) : FVec Ideal S16384x512 .f32 :=
  let q := shapeCast S4x4096x4x2x64 p shapeCasts_S4x4096x512_S4x4096x4x2x64
  let a := extractStridedSlice S4x4096x4x2x32 ![0, 0, 0, 0, 0] q slices_S4x4096x4x2x64_S4x4096x4x2x32_0_0_0_0_0
  let b := extractStridedSlice S4x4096x4x2x32 ![0, 0, 0, 0, 32] q slices_S4x4096x4x2x64_S4x4096x4x2x32_0_0_0_0_32
  shapeCast S16384x512 (concatenate S4x4096x4x2x64 4
    [⟨S4x4096x4x2x32, subf (mulf a (spread (Host.cos ang))) (mulf b (spread (Host.sin ang)))⟩,
     ⟨S4x4096x4x2x32, addf (mulf a (spread (Host.sin ang))) (mulf b (spread (Host.cos ang)))⟩]
    concatenates_S4x4096x4x2x32_S4x4096x4x2x32_S4x4096x4x2x64_d4) shapeCasts_S4x4096x4x2x64_S16384x512

theorem rope_at (p : FVec Ideal S4x4096x512 .f32) (r : Fin 16384) (l : Fin 512) :
    rope p (ix2 r l) = RowMath.ropeAt (fun l => p (ix3 ⟨r.val / 4096, by omega⟩ ⟨r.val % 4096, by omega⟩ l))
      (((BitVec.ofNat 32 (r.val % 4096)).toInt : ℝ) : EReal) l := by
  rw [RowMath.ropeAt_eq]
  pointwise [rope, spread]
  simp only [ang_at]

/-- Entry `k` of row `r`'s projection, of the reference's arguments. -/
noncomputable def projAt (x : FVec Ideal S4x4096x1024 .f32) (g : FVec Ideal S1x1024 .f32) (w : FVec Ideal S1x1024x3328 .f32)
    (r : Fin 16384) (k : Fin 3328) : EReal :=
  RowMath.dotRow (fun j => x (ix3 ⟨r.val / 4096, by omega⟩ ⟨r.val % 4096, by omega⟩ j)) (fun j => g (ix2 0 j))
    (fun j => w (ix3 0 j k))

/-- A rotated result: columns `o` and on of the projection, rotated by each row's position. -/
noncomputable def rot (x : FVec Ideal S4x4096x1024 .f32) (g : FVec Ideal S1x1024 .f32) (w : FVec Ideal S1x1024x3328 .f32)
    (o : Nat) (ho : o + 512 ≤ 3328) : FVec Ideal S16384x512 .f32 := fun y =>
  RowMath.ropeAt (fun l => projAt x g w (y 0) ⟨o + l.val, by omega⟩)
    (((BitVec.ofNat 32 ((y 0).val % 4096)).toInt : ℝ) : EReal) (y 1)

/-- The unrotated results: columns `o` and on of the projection. -/
noncomputable def cols (x : FVec Ideal S4x4096x1024 .f32) (g : FVec Ideal S1x1024 .f32) (w : FVec Ideal S1x1024x3328 .f32)
    (o n : Nat) (ho : o + n ≤ 3328) : FVec Ideal ⟨2, ![16384, n]⟩ .f32 := fun y =>
  projAt x g w (y 0) ⟨o + (y 1).val, by have : (y 1).val < n := (y 1).isLt; omega⟩

theorem rope_proj (x : FVec Ideal S4x4096x1024 .f32) (g : FVec Ideal S1x1024 .f32) (w : FVec Ideal S1x1024x3328 .f32)
    (o : Nat) (ho : o + 512 ≤ 3328) (p : FVec Ideal S4x4096x512 .f32)
    (hp : ∀ (b : Fin 4) (t : Fin 4096) (l : Fin 512), p (ix3 b t l) = proj x g w (ix3 b t ⟨o + l.val, by omega⟩)) :
    rope p = rot x g w o ho := by
  funext y
  idx_vars y
  rw [rope_at]
  simp only [hp, proj_at]
  rfl

theorem res0_eq (m : (ℓ : Loc nD τ sig) → Buf (Elt Ideal) ℓ) (c : Dev nD) :
    Value.res_main_v79 (F := Ideal) m c = rot (m ((c.tc : Thread nD τ).loc main_arg0)) (m ((c.tc : Thread nD τ).loc main_arg1)) (m ((c.tc : Thread nD τ).loc main_arg2)) 0 (by omega) := by
  have h : Value.res_main_v79 (F := Ideal) m c = rope (extractStridedSlice S4x4096x512 ![0, 0, 0] (proj (m ((c.tc : Thread nD τ).loc main_arg0)) (m ((c.tc : Thread nD τ).loc main_arg1)) (m ((c.tc : Thread nD τ).loc main_arg2))) slices_S4x4096x3328_S4x4096x512_0_0_0) := by
    unfold Value.res_main_v79; rfl
  rw [h]
  refine rope_proj _ _ _ 0 (by omega) _ fun b t l => ?_
  generalize proj _ _ _ = P
  pointwise

theorem res1_eq (m : (ℓ : Loc nD τ sig) → Buf (Elt Ideal) ℓ) (c : Dev nD) :
    Value.res_main_v80 (F := Ideal) m c = rot (m ((c.tc : Thread nD τ).loc main_arg0)) (m ((c.tc : Thread nD τ).loc main_arg1)) (m ((c.tc : Thread nD τ).loc main_arg2)) 512 (by omega) := by
  have h : Value.res_main_v80 (F := Ideal) m c = rope (extractStridedSlice S4x4096x512 ![0, 0, 512] (proj (m ((c.tc : Thread nD τ).loc main_arg0)) (m ((c.tc : Thread nD τ).loc main_arg1)) (m ((c.tc : Thread nD τ).loc main_arg2))) slices_S4x4096x3328_S4x4096x512_0_0_512) := by
    unfold Value.res_main_v80; rfl
  rw [h]
  refine rope_proj _ _ _ 512 (by omega) _ fun b t l => ?_
  generalize proj _ _ _ = P
  pointwise

theorem res2_eq (x : FVec Ideal S4x4096x1024 .f32) (g : FVec Ideal S1x1024 .f32) (w : FVec Ideal S1x1024x3328 .f32) :
    shapeCast S16384x512 (extractStridedSlice S4x4096x512 ![0, 0, 1024] (proj x g w) slices_S4x4096x3328_S4x4096x512_0_0_1024)
      shapeCasts_S4x4096x512_S16384x512 = cols x g w 1024 512 (by omega) := by
  funext y
  idx_vars y
  refine Eq.trans ?_ (proj_at x g w ⟨y0.val / 4096, by omega⟩ ⟨y0.val % 4096, by omega⟩ ⟨1024 + y1.val, by omega⟩)
  generalize proj _ _ _ = P
  pointwise

theorem res3_eq (x : FVec Ideal S4x4096x1024 .f32) (g : FVec Ideal S1x1024 .f32) (w : FVec Ideal S1x1024x3328 .f32) :
    shapeCast S16384x1792 (extractStridedSlice S4x4096x1792 ![0, 0, 1536] (proj x g w) slices_S4x4096x3328_S4x4096x1792_0_0_1536)
      shapeCasts_S4x4096x1792_S16384x1792 = cols x g w 1536 1792 (by omega) := by
  funext y
  idx_vars y
  refine Eq.trans ?_ (proj_at x g w ⟨y0.val / 4096, by omega⟩ ⟨y0.val % 4096, by omega⟩ ⟨1536 + y1.val, by omega⟩)
  generalize proj _ _ _ = P
  pointwise

end Cert.InProjPRefIdeal.Rows
-- ==== Proof.InProjBlock.lean ====
module
public import proofs.«01_k».proof.Proof.Gen.InProjPIdeal.Value
public import proofs.«01_k».proof.Proof.RowMath
public import Idealize.ShloMosaic.Lib.Pointwise
public import Idealize.ShloMosaic.Lib.Pipeline.ValueKit
@[expose] public section
namespace Cert.InProjPIdeal.Block
open Cert.InProjPIdeal Cert.InProjPIdeal.Gen Idealize.ShloMosaic Idealize.ShloMosaic.TcCoe Idealize.SL.Sem
set_option maxRecDepth 16384

theorem proj_at (x : Vec Ideal S256x1024 .f32) (g : Vec Ideal S1x1024 .f32) (w : Vec Ideal S1024x3328 .bf16)
    (r : Fin 256) (k : Fin 3328) : k0_pay1 (F := Ideal) x g w (ix2 r k)
      = RowMath.dotRow (fun j => x (ix2 r j)) (fun j => g (ix2 0 j)) (fun j => w (ix2 j k)) := by
  unfold RowMath.dotRow
  pointwise [k0_pay1]

/-- The kernel's rotation of one 128-lane slab: the slab times the cosines, plus its halves exchanged times the sines. -/
noncomputable abbrev slab (cos sin t : Vec Ideal S256x128 .f32) : Vec Ideal S256x128 .f32 :=
  k0_pay7 (F := Ideal) cos sin t (Scalar.select (Scalar.cmpi .eq 64#32 0#32) 1#32 64#32) k0_pay5 k0_pay6

/-- The kernel's test for the first half of a 64-lane head. -/
theorem firstHalf (l : Fin 128) : IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32 = if l.val % 64 < 32 then 1#1 else 0#1 := by
  revert l; decide +kernel

theorem slab_at (cos sin t : Vec Ideal S256x128 .f32) (r : Fin 256) (l : Fin 128) :
    slab cos sin t (ix2 r l) = t (ix2 r l) * cos (ix2 r l)
      + t (ix2 r ⟨if l.val % 64 < 32 then l.val + 32 else l.val - 32, by split <;> omega⟩) * sin (ix2 r l) := by
  unfold slab
  pointwise [k0_pay7, k0_pay5, k0_pay6]
  rw [firstHalf]
  by_cases h : l.val % 64 < 32
  · have e : (⟨(l.val + 128 - 96) % 128, by omega⟩ : Fin 128)
        = ⟨if l.val % 64 < 32 then l.val + 32 else l.val - 32, by split <;> omega⟩ :=
      Fin.ext (show (l.val + 128 - 96) % 128 = if l.val % 64 < 32 then l.val + 32 else l.val - 32 by
        rw [if_pos h]; omega)
    rw [e]
    simp only [if_pos h]
    rfl
  · have e : (⟨(l.val + 128 - 32) % 128, by omega⟩ : Fin 128)
        = ⟨if l.val % 64 < 32 then l.val + 32 else l.val - 32, by split <;> omega⟩ :=
      Fin.ext (show (l.val + 128 - 32) % 128 = if l.val % 64 < 32 then l.val + 32 else l.val - 32 by
        rw [if_neg h]; omega)
    rw [e]
    simp only [if_neg h]
    rfl

/-- What the kernel leaves of a rotated output at row `r`, lane `l`: columns `o` and on of the projection, rotated. -/
noncomputable def rotated (o : Nat) (ho : o + 512 ≤ 3328) (P : Vec Ideal S256x3328 .f32) (cos sin : Vec Ideal S256x128 .f32) :
    Vec Ideal S256x512 .f32 := fun y =>
  P (ix2 (y 0) ⟨o + (y 1).val, by have : (y 1).val < 512 := (y 1).isLt; omega⟩) * cos (ix2 (y 0) ⟨(y 1).val % 128, by omega⟩)
    + P (ix2 (y 0) ⟨o + (RowMath.partner (y 1)).val, by have : (RowMath.partner (y 1)).val < 512 := (RowMath.partner (y 1)).isLt; omega⟩)
      * sin (ix2 (y 0) ⟨(y 1).val % 128, by omega⟩)

/-- Slab `i` of a rotated output: `slab` of the projection's columns from `o + 128 * i` on. -/
theorem slab_piece (o : Nat) (ho : o + 512 ≤ 3328) (i : Nat) (hi : i < 4) (P : Vec Ideal S256x3328 .f32)
    (cos sin t : Vec Ideal S256x128 .f32)
    (ht : ∀ (r : Fin 256) (l : Fin 128), t (ix2 r l) = P (ix2 r ⟨o + (128 * i + l.val), by omega⟩))
    (z : S256x128.Idx) (y : S256x512.Idx) (h0 : (y 0).val = (z 0).val) (h1 : (y 1).val = 128 * i + (z 1).val) :
    slab (k0_pay2 cos) (k0_pay3 sin) t z = rotated o ho P cos sin y := by
  have e2 : k0_pay2 (F := Ideal) cos = cos := by funext j; pointwise [k0_pay2]
  have e3 : k0_pay3 (F := Ideal) sin = sin := by funext j; pointwise [k0_pay3]
  rw [e2, e3]
  obtain ⟨r, l, rfl⟩ : ∃ (r : Fin 256) (l : Fin 128), z = ix2 r l :=
    ⟨z 0, z 1, by funext a; match a with | ⟨0, _⟩ => rfl | ⟨1, _⟩ => rfl⟩
  have hlt : 128 * i + l.val < 512 := by have := l.isLt; omega
  have hy : y = ix2 r ⟨128 * i + l.val, hlt⟩ := by
    funext a
    match a with
    | ⟨0, _⟩ => exact Fin.ext h0
    | ⟨1, _⟩ => exact Fin.ext h1
  clear h0 h1
  subst hy
  rw [slab_at, ht, ht]
  have hp : (RowMath.partner ⟨128 * i + l.val, by omega⟩).val = 128 * i + (if l.val % 64 < 32 then l.val + 32 else l.val - 32) := by
    show (if (128 * i + l.val) % 64 < 32 then 128 * i + l.val + 32 else 128 * i + l.val - 32) = _
    have e : (128 * i + l.val) % 64 = l.val % 64 := by omega
    rw [e]; split <;> omega
  have hl : (⟨(128 * i + l.val) % 128, by omega⟩ : Fin 128) = l := Fin.ext (show (128 * i + l.val) % 128 = l.val by omega)
  have hq : (⟨o + (RowMath.partner ⟨128 * i + l.val, by omega⟩).val, by have := (RowMath.partner ⟨128 * i + l.val, by omega⟩).isLt; omega⟩ : Fin 3328)
      = ⟨o + (128 * i + (if l.val % 64 < 32 then l.val + 32 else l.val - 32)), by split <;> omega⟩ :=
    Fin.ext (congrArg (o + ·) hp)
  show _ = P (ix2 r ⟨o + (128 * i + l.val), _⟩) * cos (ix2 r ⟨(128 * i + l.val) % 128, _⟩)
    + P (ix2 r ⟨o + (RowMath.partner ⟨128 * i + l.val, _⟩).val, _⟩) * sin (ix2 r ⟨(128 * i + l.val) % 128, _⟩)
  rw [hl, hq]

/-- Output window 5 after the body: the projection's columns from 0 on, rotated. -/
theorem out5_eq (x : Vec Ideal S256x1024 .f32) (g : Vec Ideal S1x1024 .f32) (w : Vec Ideal S1024x3328 .bf16)
    (cos sin : Vec Ideal S256x128 .f32) : out0_5 (F := Ideal) x g w cos sin = rotated 0 (by omega) (k0_pay1 x g w) cos sin := by
  funext y
  unfold_out out0_5
  frame_out
  have e4 : k0_pay4 (F := Ideal) x g w = extractStridedSlice S256x128 ![0, 0] (k0_pay1 x g w) slices_S256x3328_o0_0_S256x128 := rfl
  rw [e4]
  generalize k0_pay1 x g w = P
  refine View.canon_apply_of_pieces (rotated 0 (by omega) P cos sin) _ ?_ y (cover0_5 _ _ _ _ y)
  intro pc hpc
  rcases List.mem_cons.mp hpc with rfl | hpc
  · intro z
    have e : k0_pay19 (k0_pay2 cos) (k0_pay3 sin) (k0_pay17 P) k0_pay18 = slab (k0_pay2 cos) (k0_pay3 sin) (extractStridedSlice S256x128 ![0, 384] P slices_S256x3328_o0_384_S256x128) := rfl
    show (k0_pay19 (k0_pay2 cos) (k0_pay3 sin) (k0_pay17 P) k0_pay18) z = _
    rw [e]
    exact slab_piece 0 (by omega) 3 (by omega) P cos sin _ (fun r l => by pointwise) z _
      (by show 0 + 1 * (z 0).val = _; omega) (by show 384 + 1 * (z 1).val = _; omega)
  rcases List.mem_cons.mp hpc with rfl | hpc
  · intro z
    have e : k0_pay14 P (k0_pay2 cos) (k0_pay3 sin) = slab (k0_pay2 cos) (k0_pay3 sin) (extractStridedSlice S256x128 ![0, 256] P slices_S256x3328_o0_256_S256x128) := rfl
    show (k0_pay14 P (k0_pay2 cos) (k0_pay3 sin)) z = _
    rw [e]
    exact slab_piece 0 (by omega) 2 (by omega) P cos sin _ (fun r l => by pointwise) z _
      (by show 0 + 1 * (z 0).val = _; omega) (by show 256 + 1 * (z 1).val = _; omega)
  rcases List.mem_cons.mp hpc with rfl | hpc
  · intro z
    have e : k0_pay10 (k0_pay2 cos) (k0_pay3 sin) (k0_pay9 P) (iota Kind.tc S256x128 32 [1] iota_S256x128_d1_w32) 64#32 = slab (k0_pay2 cos) (k0_pay3 sin) (extractStridedSlice S256x128 ![0, 128] P slices_S256x3328_o0_128_S256x128) := rfl
    show (k0_pay10 (k0_pay2 cos) (k0_pay3 sin) (k0_pay9 P) (iota Kind.tc S256x128 32 [1] iota_S256x128_d1_w32) 64#32) z = _
    rw [e]
    exact slab_piece 0 (by omega) 1 (by omega) P cos sin _ (fun r l => by pointwise) z _
      (by show 0 + 1 * (z 0).val = _; omega) (by show 128 + 1 * (z 1).val = _; omega)
  rcases List.mem_cons.mp hpc with rfl | hpc
  · intro z
    have e : k0_pay7 (k0_pay2 cos) (k0_pay3 sin) (extractStridedSlice S256x128 ![0, 0] P slices_S256x3328_o0_0_S256x128) (Scalar.select (Scalar.cmpi CmpIPredicate.eq 64#32 0#32) 1#32 64#32) k0_pay5 k0_pay6 = slab (k0_pay2 cos) (k0_pay3 sin) (extractStridedSlice S256x128 ![0, 0] P slices_S256x3328_o0_0_S256x128) := rfl
    show (k0_pay7 (k0_pay2 cos) (k0_pay3 sin) (extractStridedSlice S256x128 ![0, 0] P slices_S256x3328_o0_0_S256x128) (Scalar.select (Scalar.cmpi CmpIPredicate.eq 64#32 0#32) 1#32 64#32) k0_pay5 k0_pay6) z = _
    rw [e]
    exact slab_piece 0 (by omega) 0 (by omega) P cos sin _ (fun r l => by pointwise) z _
      (by show 0 + 1 * (z 0).val = _; omega) (by show 0 + 1 * (z 1).val = _; omega)
  nomatch hpc

/-- Output window 6 after the body: the projection's columns from 512 on, rotated. -/
theorem out6_eq (x : Vec Ideal S256x1024 .f32) (g : Vec Ideal S1x1024 .f32) (w : Vec Ideal S1024x3328 .bf16)
    (cos sin : Vec Ideal S256x128 .f32) : out0_6 (F := Ideal) x g w cos sin = rotated 512 (by omega) (k0_pay1 x g w) cos sin := by
  funext y
  unfold_out out0_6
  frame_out
  generalize k0_pay1 x g w = P
  refine View.canon_apply_of_pieces (rotated 512 (by omega) P cos sin) _ ?_ y (cover0_6 _ _ _ _ y)
  intro pc hpc
  rcases List.mem_cons.mp hpc with rfl | hpc
  · intro z
    have e : k0_pay20 P (k0_pay2 cos) (k0_pay3 sin) = slab (k0_pay2 cos) (k0_pay3 sin) (extractStridedSlice S256x128 ![0, 896] P slices_S256x3328_o0_896_S256x128) := rfl
    show (k0_pay20 P (k0_pay2 cos) (k0_pay3 sin)) z = _
    rw [e]
    exact slab_piece 512 (by omega) 3 (by omega) P cos sin _ (fun r l => by
      pointwise
      exact congrArg P (congrArg (ix2 r) (Fin.ext (show 896 + l.val = 512 + (384 + l.val) by omega)))) z _
      (by show 0 + 1 * (z 0).val = _; omega) (by show 384 + 1 * (z 1).val = _; omega)
  rcases List.mem_cons.mp hpc with rfl | hpc
  · intro z
    have e : k0_pay16 (k0_pay2 cos) (k0_pay3 sin) (k0_pay15 P) (iota .tc S256x128 32 [1] iota_S256x128_d1_w32) 64#32 (Scalar.cmpi .eq 64#32 0#32) 1#32 = slab (k0_pay2 cos) (k0_pay3 sin) (extractStridedSlice S256x128 ![0, 768] P slices_S256x3328_o0_768_S256x128) := rfl
    show (k0_pay16 (k0_pay2 cos) (k0_pay3 sin) (k0_pay15 P) (iota .tc S256x128 32 [1] iota_S256x128_d1_w32) 64#32 (Scalar.cmpi .eq 64#32 0#32) 1#32) z = _
    rw [e]
    exact slab_piece 512 (by omega) 2 (by omega) P cos sin _ (fun r l => by
      pointwise
      exact congrArg P (congrArg (ix2 r) (Fin.ext (show 768 + l.val = 512 + (256 + l.val) by omega)))) z _
      (by show 0 + 1 * (z 0).val = _; omega) (by show 256 + 1 * (z 1).val = _; omega)
  rcases List.mem_cons.mp hpc with rfl | hpc
  · intro z
    have e : k0_pay13 (k0_pay2 cos) (k0_pay3 sin) (k0_pay11 P) k0_pay12 = slab (k0_pay2 cos) (k0_pay3 sin) (extractStridedSlice S256x128 ![0, 640] P slices_S256x3328_o0_640_S256x128) := rfl
    show (k0_pay13 (k0_pay2 cos) (k0_pay3 sin) (k0_pay11 P) k0_pay12) z = _
    rw [e]
    exact slab_piece 512 (by omega) 1 (by omega) P cos sin _ (fun r l => by
      pointwise
      exact congrArg P (congrArg (ix2 r) (Fin.ext (show 640 + l.val = 512 + (128 + l.val) by omega)))) z _
      (by show 0 + 1 * (z 0).val = _; omega) (by show 128 + 1 * (z 1).val = _; omega)
  rcases List.mem_cons.mp hpc with rfl | hpc
  · intro z
    have e : k0_pay8 P (k0_pay2 cos) (k0_pay3 sin) = slab (k0_pay2 cos) (k0_pay3 sin) (extractStridedSlice S256x128 ![0, 512] P slices_S256x3328_o0_512_S256x128) := rfl
    show (k0_pay8 P (k0_pay2 cos) (k0_pay3 sin)) z = _
    rw [e]
    exact slab_piece 512 (by omega) 0 (by omega) P cos sin _ (fun r l => by pointwise) z _
      (by show 0 + 1 * (z 0).val = _; omega) (by show 0 + 1 * (z 1).val = _; omega)
  nomatch hpc

end Cert.InProjPIdeal.Block
-- ==== Proof.InProjValue.lean ====
module
public import proofs.«01_k».proof.Proof.InProjBlock
@[expose] public section
namespace Cert.InProjPIdeal.Rows
open Cert.InProjPIdeal Cert.InProjPIdeal.Gen Idealize.ShloMosaic Idealize.ShloMosaic.TcCoe Idealize.SL.Sem
set_option maxRecDepth 16384

variable (m : (ℓ : Loc nD τ sig) → Buf (Elt Ideal) ℓ) (c : Dev nD)

/-- The host's table of positions' angles. -/
noncomputable def ang : FVec Ideal S16384x32 .f32 :=
  mulf (broadcastInDim S16384x32 ![0, 1] bcast_S16384x1_S16384x32_0_1 (broadcastInDim S16384x1 ![0] bcast_S16384_S16384x1_0
      (sitofp .f32 (shapeCast S16384 (broadcastInDim S4x4096 ![0, 1] bcast_S1x4096_S4x4096_0_1
        (shapeCast S1x4096 (iotaInDim S4096 32 0) shapeCasts_S4096_S1x4096)) shapeCasts_S4x4096_S16384))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem ang_at (r : Fin 16384) (d : Fin 32) :
    ang (ix2 r d) = RowMath.angle (((BitVec.ofNat 32 (r.val % 4096)).toInt : ℝ) : EReal) d.val := by
  unfold RowMath.angle
  pointwise [ang]
  rfl

theorem cosTable_eq : V m c main_v21 = shapeCast S16384x128 (broadcastInDim S1x16384x4x32 ![0, 1, 2, 3] bcast_S1x16384x1x32_S1x16384x4x32_0_1_2_3
    (shapeCast S1x16384x1x32 (Host.cos ang) shapeCasts_S16384x32_S1x16384x1x32)) shapeCasts_S1x16384x4x32_S16384x128 := by
  unfold V
  after_results_simp
  rfl

theorem cosTable_at (r : Fin 16384) (l : Fin 128) :
    (V m c main_v21 : FVec Ideal S16384x128 .f32) (ix2 r l)
      = Ideal.cos (RowMath.angle (((BitVec.ofNat 32 (r.val % 4096)).toInt : ℝ) : EReal) (l.val % 32)) := by
  rw [cosTable_eq]
  pointwise
  rw [ang_at]

theorem sinTable_eq : V m c main_v26 = shapeCast S16384x128 (broadcastInDim S1x16384x2x64 ![0, 1, 2, 3] bcast_S1x16384x1x64_S1x16384x2x64_0_1_2_3
    (shapeCast S1x16384x1x64 (concatenate S16384x64 1 [⟨S16384x32, Host.negf (Host.sin ang)⟩, ⟨S16384x32, Host.sin ang⟩] concatenates_S16384x32_S16384x32_S16384x64_d1)
      shapeCasts_S16384x64_S1x16384x1x64)) shapeCasts_S1x16384x2x64_S16384x128 := by
  unfold V
  after_results_simp
  rfl

theorem sinTable_at (r : Fin 16384) (l : Fin 128) :
    (V m c main_v26 : FVec Ideal S16384x128 .f32) (ix2 r l)
      = if l.val % 64 < 32 then -Ideal.sin (RowMath.angle (((BitVec.ofNat 32 (r.val % 4096)).toInt : ℝ) : EReal) (l.val % 32))
        else Ideal.sin (RowMath.angle (((BitVec.ofNat 32 (r.val % 4096)).toInt : ℝ) : EReal) (l.val % 32)) := by
  rw [sinTable_eq]
  pointwise
  simp only [ang_at]
  by_cases h : l.val % 64 < 32
  · rw [dif_pos h, if_pos h, show l.val % 32 = l.val % 64 by omega]
  · rw [dif_neg h, if_neg h, show l.val % 32 = l.val % 64 - 32 by omega]

theorem xCast_at (x : FVec Ideal S4x4096x1024 .f32) (r : Fin 16384) (j : Fin 1024) :
    shapeCast S16384x1024 x shapeCasts_S4x4096x1024_S16384x1024 (ix2 r j)
      = x (ix3 ⟨r.val / 4096, by omega⟩ ⟨r.val % 4096, by omega⟩ j) := by pointwise

theorem gCast_at (g : FVec Ideal S1x1024 .f32) (j : Fin 1024) :
    shapeCast S1x1024 (shapeCast S1024 g shapeCasts_S1x1024_S1024) shapeCasts_S1024_S1x1024 (ix2 0 j) = g (ix2 0 j) := by pointwise

theorem wCast_at (w : FVec Ideal S1x1024x3328 .f32) (j : Fin 1024) (k : Fin 3328) :
    (truncf (F := Ideal) .bf16 (shapeCast S1024x3328 w shapeCasts_S1x1024x3328_S1024x3328) bitsLt_bf16_f32 : FVec Ideal S1024x3328 .bf16) (ix2 j k)
      = w (ix3 0 j k) := by pointwise

theorem x_eq : V m c main_v0 = shapeCast S16384x1024 (m ((c.tc : Thread nD τ).loc main_arg0) : FVec Ideal S4x4096x1024 .f32) shapeCasts_S4x4096x1024_S16384x1024 := by
  unfold V
  after_results_simp
  rfl

theorem g_eq : V m c main_v28 = shapeCast S1x1024 (shapeCast S1024 (m ((c.tc : Thread nD τ).loc main_arg1) : FVec Ideal S1x1024 .f32) shapeCasts_S1x1024_S1024) shapeCasts_S1024_S1x1024 := by
  unfold V
  after_results_simp
  rfl

theorem w_eq : V m c main_v30 = (truncf (F := Ideal) .bf16 (shapeCast S1024x3328 (m ((c.tc : Thread nD τ).loc main_arg2) : FVec Ideal S1x1024x3328 .f32) shapeCasts_S1x1024x3328_S1024x3328) bitsLt_bf16_f32 : FVec Ideal S1024x3328 .bf16) := by
  unfold V
  after_results_simp
  rfl

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 := by
  decide +kernel

/-- Row `r` of the block at point `t`, among the array's rows. -/
abbrev row (t : Fin cfg0.N) (r : Fin 256) : Fin 16384 := ⟨256 * t.val + r.val, by have : t.val < 64 := t.isLt; omega⟩

theorem iblk0_at (t : Fin cfg0.N) (r : Fin 256) (j : Fin 1024) :
    (iblk m c 0 t : FVec Ideal S256x1024 .f32) (ix2 r j) = (V m c main_v0 : FVec Ideal S16384x1024 .f32) (ix2 (row t r) j) := by
  blk_point [iblk, idx t]
theorem iblk1_at (t : Fin cfg0.N) (j : Fin 1024) :
    (iblk m c 1 t : FVec Ideal S1x1024 .f32) (ix2 0 j) = (V m c main_v28 : FVec Ideal S1x1024 .f32) (ix2 0 j) := by
  blk_point [iblk, idx t]
theorem iblk2_at (t : Fin cfg0.N) (j : Fin 1024) (k : Fin 3328) :
    (iblk m c 2 t : FVec Ideal S1024x3328 .bf16) (ix2 j k) = (V m c main_v30 : FVec Ideal S1024x3328 .bf16) (ix2 j k) := by
  blk_point [iblk, idx t]
theorem iblk3_at (t : Fin cfg0.N) (r : Fin 256) (l : Fin 128) :
    (iblk m c 3 t : FVec Ideal S256x128 .f32) (ix2 r l) = (V m c main_v21 : FVec Ideal S16384x128 .f32) (ix2 (row t r) l) := by
  blk_point [iblk, idx t]
theorem iblk4_at (t : Fin cfg0.N) (r : Fin 256) (l : Fin 128) :
    (iblk m c 4 t : FVec Ideal S256x128 .f32) (ix2 r l) = (V m c main_v26 : FVec Ideal S16384x128 .f32) (ix2 (row t r) l) := by
  blk_point [iblk, idx t]

/-- Entry `k` of row `r`'s projection, of the call's own arguments. -/
noncomputable def projAt (r : Fin 16384) (k : Fin 3328) : EReal :=
  RowMath.dotRow
    (fun j => (m ((c.tc : Thread nD τ).loc main_arg0) : FVec Ideal S4x4096x1024 .f32) (ix3 ⟨r.val / 4096, by omega⟩ ⟨r.val % 4096, by omega⟩ j))
    (fun j => (m ((c.tc : Thread nD τ).loc main_arg1) : FVec Ideal S1x1024 .f32) (ix2 0 j))
    (fun j => (m ((c.tc : Thread nD τ).loc main_arg2) : FVec Ideal S1x1024x3328 .f32) (ix3 0 j k))

/-- The position of row `r`. -/
noncomputable abbrev pos (r : Fin 16384) : EReal := (((BitVec.ofNat 32 (r.val % 4096)).toInt : ℝ) : EReal)

theorem block_proj (t : Fin cfg0.N) (r : Fin 256) (k : Fin 3328) :
    k0_pay1 (F := Ideal) (iblk m c 0 t) (iblk m c 1 t) (iblk m c 2 t) (ix2 r k) = projAt m c (row t r) k := by
  rw [Block.proj_at]
  have e0 : (fun j => (iblk m c 0 t : FVec Ideal S256x1024 .f32) (ix2 r j)) = fun j =>
      (m ((c.tc : Thread nD τ).loc main_arg0) : FVec Ideal S4x4096x1024 .f32) (ix3 ⟨(row t r).val / 4096, by omega⟩ ⟨(row t r).val % 4096, by omega⟩ j) :=
    funext fun j => (iblk0_at m c t r j).trans ((congrFun (x_eq m c) _).trans (xCast_at _ _ j))
  have e1 : (fun j => (iblk m c 1 t : FVec Ideal S1x1024 .f32) (ix2 0 j)) = fun j =>
      (m ((c.tc : Thread nD τ).loc main_arg1) : FVec Ideal S1x1024 .f32) (ix2 0 j) :=
    funext fun j => (iblk1_at m c t j).trans ((congrFun (g_eq m c) _).trans (gCast_at _ j))
  have e2 : (fun j => (iblk m c 2 t : FVec Ideal S1024x3328 .bf16) (ix2 j k)) = fun j =>
      (m ((c.tc : Thread nD τ).loc main_arg2) : FVec Ideal S1x1024x3328 .f32) (ix3 0 j k) :=
    funext fun j => (iblk2_at m c t j k).trans ((congrFun (w_eq m c) _).trans (wCast_at _ j k))
  exact congr (congr (congrArg RowMath.dotRow e0) e1) e2

/-- A rotated output's array: columns `o` and on of the projection, rotated by each row's position. -/
noncomputable def rot (o : Nat) (ho : o + 512 ≤ 3328) : FVec Ideal S16384x512 .f32 := fun y =>
  RowMath.ropeAt (fun l => projAt m c (y 0) ⟨o + l.val, by omega⟩) (pos (y 0)) (y 1)

theorem block_rot (o : Nat) (ho : o + 512 ≤ 3328) (t : Fin cfg0.N) (r : Fin 256) (l : Fin 512) :
    Block.rotated o ho (k0_pay1 (F := Ideal) (iblk m c 0 t) (iblk m c 1 t) (iblk m c 2 t)) (iblk m c 3 t) (iblk m c 4 t) (ix2 r l)
      = rot m c o ho (ix2 (row t r) l) := by
  show k0_pay1 (F := Ideal) (iblk m c 0 t) (iblk m c 1 t) (iblk m c 2 t) (ix2 r ⟨o + l.val, _⟩)
      * (iblk m c 3 t : FVec Ideal S256x128 .f32) (ix2 r ⟨l.val % 128, _⟩)
    + k0_pay1 (F := Ideal) (iblk m c 0 t) (iblk m c 1 t) (iblk m c 2 t) (ix2 r ⟨o + (RowMath.partner l).val, _⟩)
      * (iblk m c 4 t : FVec Ideal S256x128 .f32) (ix2 r ⟨l.val % 128, _⟩) = _
  rw [block_proj, block_proj, iblk3_at, iblk4_at, cosTable_at, sinTable_at]
  show _ = RowMath.ropeAt _ _ l
  unfold RowMath.ropeAt
  rw [show l.val % 128 % 32 = l.val % 32 by omega, show l.val % 128 % 64 = l.val % 64 by omega]
  rfl

theorem arr5 : (dats m 0 c).arrAt 5 cfg0.N = rot m c 0 (by omega) := by
  refine (dats m 0 c).arrAt_eq_of_covers 5 _ (by decide +kernel) fun t hf y => ?_
  blk_simp
  rw [after0_5, Block.out5_eq]
  idx_vars y
  rw [block_rot]
  generalize rot m c _ _ = X
  blk_point [idx t]

theorem arr6 : (dats m 0 c).arrAt 6 cfg0.N = rot m c 512 (by omega) := by
  refine (dats m 0 c).arrAt_eq_of_covers 6 _ (by decide +kernel) fun t hf y => ?_
  blk_simp
  rw [after0_6, Block.out6_eq]
  idx_vars y
  rw [block_rot]
  generalize rot m c _ _ = X
  blk_point [idx t]

/-- An unrotated output's array: columns 1024 and on of the projection. -/
noncomputable def vals : FVec Ideal S16384x512 .f32 := fun y => projAt m c (y 0) ⟨1024 + (y 1).val, by have : (y 1).val < 512 := (y 1).isLt; omega⟩
/-- The last output's array: columns 1536 and on of the projection. -/
noncomputable def rest : FVec Ideal S16384x1792 .f32 := fun y => projAt m c (y 0) ⟨1536 + (y 1).val, by have : (y 1).val < 1792 := (y 1).isLt; omega⟩

theorem pay21_at (P : Vec Ideal S256x3328 .f32) (r : Fin 256) (l : Fin 512) :
    k0_pay21 (F := Ideal) P (ix2 r l) = P (ix2 r ⟨1024 + l.val, by omega⟩) := by pointwise [k0_pay21]
theorem pay22_at (P : Vec Ideal S256x3328 .f32) (r : Fin 256) (l : Fin 1792) :
    k0_pay22 (F := Ideal) P (ix2 r l) = P (ix2 r ⟨1536 + l.val, by omega⟩) := by pointwise [k0_pay22]

theorem arr7 : (dats m 0 c).arrAt 7 cfg0.N = vals m c := by
  refine (dats m 0 c).arrAt_eq_of_covers 7 _ (by decide +kernel) fun t hf y => ?_
  blk_simp
  rw [after0_7]
  idx_vars y
  unfold_out out0_7
  frame_out
  rw [pay21_at, block_proj]
  show vals m c (ix2 (row t y0) y1) = _
  generalize vals m c = X
  blk_point [idx t]

theorem arr8 : (dats m 0 c).arrAt 8 cfg0.N = rest m c := by
  refine (dats m 0 c).arrAt_eq_of_covers 8 _ (by decide +kernel) fun t hf y => ?_
  blk_simp
  rw [after0_8]
  idx_vars y
  unfold_out out0_8
  frame_out
  rw [pay22_at, block_proj]
  show rest m c (ix2 (row t y0) y1) = _
  generalize rest m c = X
  blk_point [idx t]
end Cert.InProjPIdeal.Rows
-- ==== Proof.InProj.lean ====
module
public import proofs.«01_k».proof.Proof.InProjRef
public import proofs.«01_k».proof.Proof.InProjValue
public import proofs.«01_k».proof.Proof.Gen.InProjP.Frame
public import proofs.«01_k».proof.Defs
@[expose] public section
set_option maxRecDepth 16384
/-! The claims of the prompt's input projection. -/
namespace Cert.Proof.InProjP
open Idealize.ShloMosaic Idealize.ShloMosaic.TcCoe Idealize.SL.Sem

/-- The kernel as lowered runs to its end and leaves its arguments unchanged. -/
theorem frame_bits : Cert.quiescent_InProjP := fun m ρ _ => Cert.InProjP.Gen.frame m ρ
/-- The kernel over the ideal floats runs to its end and leaves its arguments unchanged. -/
theorem frame_ideal : Cert.quiescent_InProjPIdeal := fun m ρ _ => Cert.InProjPIdeal.Gen.frame m ρ
/-- The reference runs to its end and leaves its arguments unchanged. -/
theorem frame_ref : Cert.quiescent_InProjPRefIdeal := fun m ρ _ =>
  (θ_run Cert.InProjPRefIdeal.defs _ _).mono (fun r h => ⟨fun c => (h c).2.2.2.2,
      Idealize.ShloMosaic.sem_eq_zero_of_no_sems (by decide) r.2⟩)
    (Cert.InProjPRefIdeal.Value.run (F := Ideal) m ρ)
/-- Nothing of the kernel was rewritten for the ideal floats. -/
theorem preserves : Cert.preserves_InProjP_InProjPIdeal := trivial

/-- The kernel's four arrays are the reference's four, over the ideal floats. -/
theorem algebraic : Cert.algebraic_InProjPIdeal_InProjPRefIdeal := by
  intro m ρ m' ρ' _ hag
  refine ⟨fun c => InProjPIdeal.Rows.rot m c 0 (by omega), fun c => InProjPIdeal.Rows.rot m c 512 (by omega),
    fun c => InProjPIdeal.Rows.vals m c, fun c => InProjPIdeal.Rows.rest m c, ?_, ?_⟩
  · exact (θ_run Cert.InProjPIdeal.defs _ _).mono
      (fun _ h c => ⟨(h c).1.trans (InProjPIdeal.Rows.arr5 m c), (h c).2.1.trans (InProjPIdeal.Rows.arr6 m c),
        (h c).2.2.1.trans (InProjPIdeal.Rows.arr7 m c), (h c).2.2.2.1.trans (InProjPIdeal.Rows.arr8 m c), (h c).2.2.2.2⟩)
      (Cert.InProjPIdeal.Value.run_blocks (F := Ideal) m ρ)
  · refine (θ_run Cert.InProjPRefIdeal.defs _ _).mono (fun _ h c => ?_)
      (Cert.InProjPRefIdeal.Value.run (F := Ideal) m' ρ')
    obtain ⟨h0, h1, h2, h3, h4⟩ := h c
    obtain ⟨a0, a1, a2⟩ := hag c
    refine ⟨h0.trans ?_, h1.trans ?_, h2.trans ?_, h3.trans ?_, h4⟩
    · rw [InProjPRefIdeal.Rows.res0_eq, a0, a1, a2]; rfl
    · rw [InProjPRefIdeal.Rows.res1_eq, a0, a1, a2]; rfl
    · refine (InProjPRefIdeal.Rows.res2_eq _ _ _).trans ?_
      rw [a0, a1, a2]; rfl
    · refine (InProjPRefIdeal.Rows.res3_eq _ _ _).trans ?_
      rw [a0, a1, a2]; rfl

end Cert.Proof.InProjP
-- ==== Proof.InProjSRef.lean ====
module
public import proofs.«01_k».proof.Proof.Gen.InProjSRefIdeal.Run
public import proofs.«01_k».proof.Proof.RowMath
@[expose] public section
namespace Cert.InProjSRefIdeal.Rows
open Cert.InProjSRefIdeal Cert.InProjSRefIdeal.Gen Idealize.ShloMosaic Idealize.ShloMosaic.TcCoe Idealize.SL.Sem
set_option maxRecDepth 1024

/-- The reference's projection array, of its three arguments. -/
noncomputable def proj (x : FVec Ideal S128x8x1024 .f32) (g : FVec Ideal S1x1024 .f32) (w : FVec Ideal S1x1024x3328 .f32) :
    FVec Ideal S128x8x3328 .f32 :=
  Host.dotGeneral dot_S128x8x1024_S1024x3328_S128x8x3328_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast S1024 g shapeCasts_S1x1024_S1024)))) (shapeCast S1024x3328 w shapeCasts_S1x1024x3328_S1024x3328)

theorem proj_at (x : FVec Ideal S128x8x1024 .f32) (g : FVec Ideal S1x1024 .f32) (w : FVec Ideal S1x1024x3328 .f32)
    (b : Fin 128) (t : Fin 8) (k : Fin 3328) :
    proj x g w (ix3 b t k) = RowMath.dotRow (fun j => x (ix3 b t j)) (fun j => g (ix2 0 j)) (fun j => w (ix3 0 j k)) := by
  unfold RowMath.dotRow
  pointwise [proj]

/-- The reference's table of angles, by position and frequency. -/
noncomputable def ang : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 2048#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem ang_at (t : Fin 8) (d : Fin 32) :
    ang (ix2 t d) = RowMath.angle (((IntOp.addi 2048#32 (BitVec.ofNat 32 t.val)).toInt : ℝ) : EReal) d.val := by
  unfold RowMath.angle
  pointwise [ang]
  rfl

/-- A table of the reference spread over batch, head and map. -/
noncomputable def spread (a : FVec Ideal S8x32 .f32) : FVec Ideal S128x8x4x2x32 .f32 :=
  broadcastInDim S128x8x4x2x32 ![0, 1, 2, 3, 4] bcast_S1x8x1x1x32_S128x8x4x2x32_0_1_2_3_4 (broadcastInDim S1x8x1x1x32 ![1, 4] bcast_S8x32_S1x8x1x1x32_1_4 a)

/-- The reference's rotary embedding of a 512-lane array, heads flattened. -/
noncomputable def rope (p : FVec Ideal S128x8x512 .f32) : FVec Ideal S1024x512 .f32 :=
  let q := shapeCast S128x8x4x2x64 p shapeCasts_S128x8x512_S128x8x4x2x64
  let a := extractStridedSlice S128x8x4x2x32 ![0, 0, 0, 0, 0] q slices_S128x8x4x2x64_S128x8x4x2x32_0_0_0_0_0
  let b := extractStridedSlice S128x8x4x2x32 ![0, 0, 0, 0, 32] q slices_S128x8x4x2x64_S128x8x4x2x32_0_0_0_0_32
  shapeCast S1024x512 (concatenate S128x8x4x2x64 4
    [⟨S128x8x4x2x32, subf (mulf a (spread (Host.cos ang))) (mulf b (spread (Host.sin ang)))⟩,
     ⟨S128x8x4x2x32, addf (mulf a (spread (Host.sin ang))) (mulf b (spread (Host.cos ang)))⟩]
    concatenates_S128x8x4x2x32_S128x8x4x2x32_S128x8x4x2x64_d4) shapeCasts_S128x8x4x2x64_S1024x512

theorem rope_at (p : FVec Ideal S128x8x512 .f32) (r : Fin 1024) (l : Fin 512) :
    rope p (ix2 r l) = RowMath.ropeAt (fun l => p (ix3 ⟨r.val / 8, by omega⟩ ⟨r.val % 8, by omega⟩ l))
      (((IntOp.addi 2048#32 (BitVec.ofNat 32 (r.val % 8))).toInt : ℝ) : EReal) l := by
  rw [RowMath.ropeAt_eq]
  pointwise [rope, spread]
  simp only [ang_at]

/-- Entry `k` of row `r`'s projection, of the reference's arguments. -/
noncomputable def projAt (x : FVec Ideal S128x8x1024 .f32) (g : FVec Ideal S1x1024 .f32) (w : FVec Ideal S1x1024x3328 .f32)
    (r : Fin 1024) (k : Fin 3328) : EReal :=
  RowMath.dotRow (fun j => x (ix3 ⟨r.val / 8, by omega⟩ ⟨r.val % 8, by omega⟩ j)) (fun j => g (ix2 0 j))
    (fun j => w (ix3 0 j k))

/-- A rotated result: columns `o` and on of the projection, rotated by each row's position. -/
noncomputable def rot (x : FVec Ideal S128x8x1024 .f32) (g : FVec Ideal S1x1024 .f32) (w : FVec Ideal S1x1024x3328 .f32)
    (o : Nat) (ho : o + 512 ≤ 3328) : FVec Ideal S1024x512 .f32 := fun y =>
  RowMath.ropeAt (fun l => projAt x g w (y 0) ⟨o + l.val, by omega⟩)
    (((IntOp.addi 2048#32 (BitVec.ofNat 32 ((y 0).val % 8))).toInt : ℝ) : EReal) (y 1)

/-- The unrotated results: columns `o` and on of the projection. -/
noncomputable def cols (x : FVec Ideal S128x8x1024 .f32) (g : FVec Ideal S1x1024 .f32) (w : FVec Ideal S1x1024x3328 .f32)
    (o n : Nat) (ho : o + n ≤ 3328) : FVec Ideal ⟨2, ![1024, n]⟩ .f32 := fun y =>
  projAt x g w (y 0) ⟨o + (y 1).val, by have : (y 1).val < n := (y 1).isLt; omega⟩

theorem rope_proj (x : FVec Ideal S128x8x1024 .f32) (g : FVec Ideal S1x1024 .f32) (w : FVec Ideal S1x1024x3328 .f32)
    (o : Nat) (ho : o + 512 ≤ 3328) (p : FVec Ideal S128x8x512 .f32)
    (hp : ∀ (b : Fin 128) (t : Fin 8) (l : Fin 512), p (ix3 b t l) = proj x g w (ix3 b t ⟨o + l.val, by omega⟩)) :
    rope p = rot x g w o ho := by
  funext y
  idx_vars y
  rw [rope_at]
  simp only [hp, proj_at]
  rfl

theorem res0_eq (m : (ℓ : Loc nD τ sig) → Buf (Elt Ideal) ℓ) (c : Dev nD) :
    Value.res_main_v81 (F := Ideal) m c = rot (m ((c.tc : Thread nD τ).loc main_arg0)) (m ((c.tc : Thread nD τ).loc main_arg1)) (m ((c.tc : Thread nD τ).loc main_arg2)) 0 (by omega) := by
  have h : Value.res_main_v81 (F := Ideal) m c = rope (extractStridedSlice S128x8x512 ![0, 0, 0] (proj (m ((c.tc : Thread nD τ).loc main_arg0)) (m ((c.tc : Thread nD τ).loc main_arg1)) (m ((c.tc : Thread nD τ).loc main_arg2))) slices_S128x8x3328_S128x8x512_0_0_0) := by
    unfold Value.res_main_v81; rfl
  rw [h]
  refine rope_proj _ _ _ 0 (by omega) _ fun b t l => ?_
  generalize proj _ _ _ = P
  pointwise

theorem res1_eq (m : (ℓ : Loc nD τ sig) → Buf (Elt Ideal) ℓ) (c : Dev nD) :
    Value.res_main_v82 (F := Ideal) m c = rot (m ((c.tc : Thread nD τ).loc main_arg0)) (m ((c.tc : Thread nD τ).loc main_arg1)) (m ((c.tc : Thread nD τ).loc main_arg2)) 512 (by omega) := by
  have h : Value.res_main_v82 (F := Ideal) m c = rope (extractStridedSlice S128x8x512 ![0, 0, 512] (proj (m ((c.tc : Thread nD τ).loc main_arg0)) (m ((c.tc : Thread nD τ).loc main_arg1)) (m ((c.tc : Thread nD τ).loc main_arg2))) slices_S128x8x3328_S128x8x512_0_0_512) := by
    unfold Value.res_main_v82; rfl
  rw [h]
  refine rope_proj _ _ _ 512 (by omega) _ fun b t l => ?_
  generalize proj _ _ _ = P
  pointwise

theorem res2_eq (x : FVec Ideal S128x8x1024 .f32) (g : FVec Ideal S1x1024 .f32) (w : FVec Ideal S1x1024x3328 .f32) :
    shapeCast S1024x512 (extractStridedSlice S128x8x512 ![0, 0, 1024] (proj x g w) slices_S128x8x3328_S128x8x512_0_0_1024)
      shapeCasts_S128x8x512_S1024x512 = cols x g w 1024 512 (by omega) := by
  funext y
  idx_vars y
  have e : cols x g w 1024 512 (by omega) (ix2 y0 y1) = projAt x g w y0 ⟨1024 + y1.val, by omega⟩ := rfl
  rw [e]
  unfold projAt
  rw [← proj_at x g w ⟨y0.val / 8, by omega⟩ ⟨y0.val % 8, by omega⟩ ⟨1024 + y1.val, by omega⟩]
  generalize proj _ _ _ = P
  pointwise

theorem res3_eq (x : FVec Ideal S128x8x1024 .f32) (g : FVec Ideal S1x1024 .f32) (w : FVec Ideal S1x1024x3328 .f32) :
    shapeCast S1024x1792 (extractStridedSlice S128x8x1792 ![0, 0, 1536] (proj x g w) slices_S128x8x3328_S128x8x1792_0_0_1536)
      shapeCasts_S128x8x1792_S1024x1792 = cols x g w 1536 1792 (by omega) := by
  funext y
  idx_vars y
  have e : cols x g w 1536 1792 (by omega) (ix2 y0 y1) = projAt x g w y0 ⟨1536 + y1.val, by omega⟩ := rfl
  rw [e]
  unfold projAt
  rw [← proj_at x g w ⟨y0.val / 8, by omega⟩ ⟨y0.val % 8, by omega⟩ ⟨1536 + y1.val, by omega⟩]
  generalize proj _ _ _ = P
  pointwise

end Cert.InProjSRefIdeal.Rows
-- ==== Proof.InProjSValue.lean ====
module
public import proofs.«01_k».proof.Proof.Gen.InProjSIdeal.Value
public import proofs.«01_k».proof.Proof.InProjBlock
@[expose] public section
namespace Cert.InProjSIdeal.Block
open Cert.InProjSIdeal Cert.InProjSIdeal.Gen Idealize.ShloMosaic Idealize.ShloMosaic.TcCoe Idealize.SL.Sem
set_option maxRecDepth 16384
/-! The kernel's body is the prompt's: its block values are those of the prompt's call. -/

noncomputable abbrev rotated := @Cert.InProjPIdeal.Block.rotated

theorem proj_at (x : Vec Ideal S256x1024 .f32) (g : Vec Ideal S1x1024 .f32) (w : Vec Ideal S1024x3328 .bf16)
    (r : Fin 256) (k : Fin 3328) : k0_pay1 (F := Ideal) x g w (ix2 r k)
      = RowMath.dotRow (fun j => x (ix2 r j)) (fun j => g (ix2 0 j)) (fun j => w (ix2 j k)) :=
  Cert.InProjPIdeal.Block.proj_at x g w r k

theorem out5_eq (x : Vec Ideal S256x1024 .f32) (g : Vec Ideal S1x1024 .f32) (w : Vec Ideal S1024x3328 .bf16)
    (cos sin : Vec Ideal S256x128 .f32) : out0_5 (F := Ideal) x g w cos sin = rotated 0 (by omega) (k0_pay1 x g w) cos sin :=
  Cert.InProjPIdeal.Block.out5_eq x g w cos sin

theorem out6_eq (x : Vec Ideal S256x1024 .f32) (g : Vec Ideal S1x1024 .f32) (w : Vec Ideal S1024x3328 .bf16)
    (cos sin : Vec Ideal S256x128 .f32) : out0_6 (F := Ideal) x g w cos sin = rotated 512 (by omega) (k0_pay1 x g w) cos sin :=
  Cert.InProjPIdeal.Block.out6_eq x g w cos sin

end Cert.InProjSIdeal.Block
namespace Cert.InProjSIdeal.Rows
open Cert.InProjSIdeal Cert.InProjSIdeal.Gen Idealize.ShloMosaic Idealize.ShloMosaic.TcCoe Idealize.SL.Sem
set_option maxRecDepth 1024

variable (m : (ℓ : Loc nD τ sig) → Buf (Elt Ideal) ℓ) (c : Dev nD)

/-- The host's table of positions' angles. -/
noncomputable def ang : FVec Ideal S1024x32 .f32 :=
  mulf (broadcastInDim S1024x32 ![0, 1] bcast_S1024x1_S1024x32_0_1 (broadcastInDim S1024x1 ![0] bcast_S1024_S1024x1_0
      (sitofp .f32 (shapeCast S1024 (broadcastInDim S128x8 ![0, 1] bcast_S1x8_S128x8_0_1
        (shapeCast S1x8 (addi (broadcastInDim S8 ![] bcast_S_S8 (constantI S_ 32 2048#32)) (iotaInDim S8 32 0)) shapeCasts_S8_S1x8)) shapeCasts_S128x8_S1024))))
    (broadcastInDim S1024x32 ![0, 1] bcast_S1x32_S1024x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem ang_at (r : Fin 1024) (d : Fin 32) :
    ang (ix2 r d) = RowMath.angle (((IntOp.addi 2048#32 (BitVec.ofNat 32 (r.val % 8))).toInt : ℝ) : EReal) d.val := by
  unfold RowMath.angle
  pointwise [ang]
  rfl

theorem cosTable_eq : V m c main_v23 = shapeCast S1024x128 (broadcastInDim S1x1024x4x32 ![0, 1, 2, 3] bcast_S1x1024x1x32_S1x1024x4x32_0_1_2_3
    (shapeCast S1x1024x1x32 (Host.cos ang) shapeCasts_S1024x32_S1x1024x1x32)) shapeCasts_S1x1024x4x32_S1024x128 := by
  unfold V
  after_results_simp
  rfl

theorem cosTable_at (r : Fin 1024) (l : Fin 128) :
    (V m c main_v23 : FVec Ideal S1024x128 .f32) (ix2 r l)
      = Ideal.cos (RowMath.angle (((IntOp.addi 2048#32 (BitVec.ofNat 32 (r.val % 8))).toInt : ℝ) : EReal) (l.val % 32)) := by
  rw [cosTable_eq]
  pointwise
  rw [ang_at]

theorem sinTable_eq : V m c main_v28 = shapeCast S1024x128 (broadcastInDim S1x1024x2x64 ![0, 1, 2, 3] bcast_S1x1024x1x64_S1x1024x2x64_0_1_2_3
    (shapeCast S1x1024x1x64 (concatenate S1024x64 1 [⟨S1024x32, Host.negf (Host.sin ang)⟩, ⟨S1024x32, Host.sin ang⟩] concatenates_S1024x32_S1024x32_S1024x64_d1)
      shapeCasts_S1024x64_S1x1024x1x64)) shapeCasts_S1x1024x2x64_S1024x128 := by
  unfold V
  after_results_simp
  rfl

theorem sinTable_at (r : Fin 1024) (l : Fin 128) :
    (V m c main_v28 : FVec Ideal S1024x128 .f32) (ix2 r l)
      = if l.val % 64 < 32 then -Ideal.sin (RowMath.angle (((IntOp.addi 2048#32 (BitVec.ofNat 32 (r.val % 8))).toInt : ℝ) : EReal) (l.val % 32))
        else Ideal.sin (RowMath.angle (((IntOp.addi 2048#32 (BitVec.ofNat 32 (r.val % 8))).toInt : ℝ) : EReal) (l.val % 32)) := by
  rw [sinTable_eq]
  pointwise
  simp only [ang_at]
  by_cases h : l.val % 64 < 32
  · rw [dif_pos h, if_pos h, show l.val % 32 = l.val % 64 by omega]
  · rw [dif_neg h, if_neg h, show l.val % 32 = l.val % 64 - 32 by omega]

theorem xCast_at (x : FVec Ideal S128x8x1024 .f32) (r : Fin 1024) (j : Fin 1024) :
    shapeCast S1024x1024 x shapeCasts_S128x8x1024_S1024x1024 (ix2 r j)
      = x (ix3 ⟨r.val / 8, by omega⟩ ⟨r.val % 8, by omega⟩ j) := by pointwise

theorem gCast_at (g : FVec Ideal S1x1024 .f32) (j : Fin 1024) :
    shapeCast S1x1024 (shapeCast S1024 g shapeCasts_S1x1024_S1024) shapeCasts_S1024_S1x1024 (ix2 0 j) = g (ix2 0 j) := by pointwise

theorem wCast_at (w : FVec Ideal S1x1024x3328 .f32) (j : Fin 1024) (k : Fin 3328) :
    (truncf (F := Ideal) .bf16 (shapeCast S1024x3328 w shapeCasts_S1x1024x3328_S1024x3328) bitsLt_bf16_f32 : FVec Ideal S1024x3328 .bf16) (ix2 j k)
      = w (ix3 0 j k) := by pointwise

theorem x_eq : V m c main_v0 = shapeCast S1024x1024 (m ((c.tc : Thread nD τ).loc main_arg0) : FVec Ideal S128x8x1024 .f32) shapeCasts_S128x8x1024_S1024x1024 := by
  unfold V
  after_results_simp
  rfl

theorem g_eq : V m c main_v30 = shapeCast S1x1024 (shapeCast S1024 (m ((c.tc : Thread nD τ).loc main_arg1) : FVec Ideal S1x1024 .f32) shapeCasts_S1x1024_S1024) shapeCasts_S1024_S1x1024 := by
  unfold V
  after_results_simp
  rfl

theorem w_eq : V m c main_v32 = (truncf (F := Ideal) .bf16 (shapeCast S1024x3328 (m ((c.tc : Thread nD τ).loc main_arg2) : FVec Ideal S1x1024x3328 .f32) shapeCasts_S1x1024x3328_S1024x3328) bitsLt_bf16_f32 : FVec Ideal S1024x3328 .bf16) := by
  unfold V
  after_results_simp
  rfl

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0
    ∧ win0_8.index t 0 = t.val ∧ win0_8.index t 1 = 0 := by
  decide +kernel

/-- Row `r` of the block at point `t`, among the array's rows. -/
abbrev row (t : Fin cfg0.N) (r : Fin 256) : Fin 1024 := ⟨256 * t.val + r.val, by have : t.val < 4 := t.isLt; omega⟩

theorem iblk0_at (t : Fin cfg0.N) (r : Fin 256) (j : Fin 1024) :
    (iblk m c 0 t : FVec Ideal S256x1024 .f32) (ix2 r j) = (V m c main_v0 : FVec Ideal S1024x1024 .f32) (ix2 (row t r) j) := by
  blk_point [iblk, idx t]
theorem iblk1_at (t : Fin cfg0.N) (j : Fin 1024) :
    (iblk m c 1 t : FVec Ideal S1x1024 .f32) (ix2 0 j) = (V m c main_v30 : FVec Ideal S1x1024 .f32) (ix2 0 j) := by
  blk_point [iblk, idx t]
theorem iblk2_at (t : Fin cfg0.N) (j : Fin 1024) (k : Fin 3328) :
    (iblk m c 2 t : FVec Ideal S1024x3328 .bf16) (ix2 j k) = (V m c main_v32 : FVec Ideal S1024x3328 .bf16) (ix2 j k) := by
  blk_point [iblk, idx t]
theorem iblk3_at (t : Fin cfg0.N) (r : Fin 256) (l : Fin 128) :
    (iblk m c 3 t : FVec Ideal S256x128 .f32) (ix2 r l) = (V m c main_v23 : FVec Ideal S1024x128 .f32) (ix2 (row t r) l) := by
  blk_point [iblk, idx t]
theorem iblk4_at (t : Fin cfg0.N) (r : Fin 256) (l : Fin 128) :
    (iblk m c 4 t : FVec Ideal S256x128 .f32) (ix2 r l) = (V m c main_v28 : FVec Ideal S1024x128 .f32) (ix2 (row t r) l) := by
  blk_point [iblk, idx t]

/-- Entry `k` of row `r`'s projection, of the call's own arguments. -/
noncomputable def projAt (r : Fin 1024) (k : Fin 3328) : EReal :=
  RowMath.dotRow
    (fun j => (m ((c.tc : Thread nD τ).loc main_arg0) : FVec Ideal S128x8x1024 .f32) (ix3 ⟨r.val / 8, by omega⟩ ⟨r.val % 8, by omega⟩ j))
    (fun j => (m ((c.tc : Thread nD τ).loc main_arg1) : FVec Ideal S1x1024 .f32) (ix2 0 j))
    (fun j => (m ((c.tc : Thread nD τ).loc main_arg2) : FVec Ideal S1x1024x3328 .f32) (ix3 0 j k))

/-- The position of row `r`. -/
noncomputable abbrev pos (r : Fin 1024) : EReal := (((IntOp.addi 2048#32 (BitVec.ofNat 32 (r.val % 8))).toInt : ℝ) : EReal)

theorem block_proj (t : Fin cfg0.N) (r : Fin 256) (k : Fin 3328) :
    k0_pay1 (F := Ideal) (iblk m c 0 t) (iblk m c 1 t) (iblk m c 2 t) (ix2 r k) = projAt m c (row t r) k := by
  rw [Block.proj_at]
  have e0 : (fun j => (iblk m c 0 t : FVec Ideal S256x1024 .f32) (ix2 r j)) = fun j =>
      (m ((c.tc : Thread nD τ).loc main_arg0) : FVec Ideal S128x8x1024 .f32) (ix3 ⟨(row t r).val / 8, by omega⟩ ⟨(row t r).val % 8, by omega⟩ j) :=
    funext fun j => (iblk0_at m c t r j).trans ((congrFun (x_eq m c) _).trans (xCast_at _ _ j))
  have e1 : (fun j => (iblk m c 1 t : FVec Ideal S1x1024 .f32) (ix2 0 j)) = fun j =>
      (m ((c.tc : Thread nD τ).loc main_arg1) : FVec Ideal S1x1024 .f32) (ix2 0 j) :=
    funext fun j => (iblk1_at m c t j).trans ((congrFun (g_eq m c) _).trans (gCast_at _ j))
  have e2 : (fun j => (iblk m c 2 t : FVec Ideal S1024x3328 .bf16) (ix2 j k)) = fun j =>
      (m ((c.tc : Thread nD τ).loc main_arg2) : FVec Ideal S1x1024x3328 .f32) (ix3 0 j k) :=
    funext fun j => (iblk2_at m c t j k).trans ((congrFun (w_eq m c) _).trans (wCast_at _ j k))
  exact congr (congr (congrArg RowMath.dotRow e0) e1) e2

/-- A rotated output's array: columns `o` and on of the projection, rotated by each row's position. -/
noncomputable def rot (o : Nat) (ho : o + 512 ≤ 3328) : FVec Ideal S1024x512 .f32 := fun y =>
  RowMath.ropeAt (fun l => projAt m c (y 0) ⟨o + l.val, by omega⟩) (pos (y 0)) (y 1)

theorem block_rot (o : Nat) (ho : o + 512 ≤ 3328) (t : Fin cfg0.N) (r : Fin 256) (l : Fin 512) :
    Block.rotated o ho (k0_pay1 (F := Ideal) (iblk m c 0 t) (iblk m c 1 t) (iblk m c 2 t)) (iblk m c 3 t) (iblk m c 4 t) (ix2 r l)
      = rot m c o ho (ix2 (row t r) l) := by
  show k0_pay1 (F := Ideal) (iblk m c 0 t) (iblk m c 1 t) (iblk m c 2 t) (ix2 r ⟨o + l.val, _⟩)
      * (iblk m c 3 t : FVec Ideal S256x128 .f32) (ix2 r ⟨l.val % 128, _⟩)
    + k0_pay1 (F := Ideal) (iblk m c 0 t) (iblk m c 1 t) (iblk m c 2 t) (ix2 r ⟨o + (RowMath.partner l).val, _⟩)
      * (iblk m c 4 t : FVec Ideal S256x128 .f32) (ix2 r ⟨l.val % 128, _⟩) = _
  rw [block_proj, block_proj, iblk3_at, iblk4_at, cosTable_at, sinTable_at]
  show _ = RowMath.ropeAt _ _ l
  unfold RowMath.ropeAt
  rw [show l.val % 128 % 32 = l.val % 32 by omega, show l.val % 128 % 64 = l.val % 64 by omega]
  rfl

theorem arr5 : (dats m 0 c).arrAt 5 cfg0.N = rot m c 0 (by omega) := by
  refine (dats m 0 c).arrAt_eq_of_covers 5 _ (by decide +kernel) fun t hf y => ?_
  blk_simp
  rw [after0_5, Block.out5_eq]
  idx_vars y
  rw [block_rot]
  generalize rot m c _ _ = X
  blk_point [idx t]

theorem arr6 : (dats m 0 c).arrAt 6 cfg0.N = rot m c 512 (by omega) := by
  refine (dats m 0 c).arrAt_eq_of_covers 6 _ (by decide +kernel) fun t hf y => ?_
  blk_simp
  rw [after0_6, Block.out6_eq]
  idx_vars y
  rw [block_rot]
  generalize rot m c _ _ = X
  blk_point [idx t]

/-- An unrotated output's array: columns 1024 and on of the projection. -/
noncomputable def vals : FVec Ideal S1024x512 .f32 := fun y => projAt m c (y 0) ⟨1024 + (y 1).val, by have : (y 1).val < 512 := (y 1).isLt; omega⟩
/-- The last output's array: columns 1536 and on of the projection. -/
noncomputable def rest : FVec Ideal S1024x1792 .f32 := fun y => projAt m c (y 0) ⟨1536 + (y 1).val, by have : (y 1).val < 1792 := (y 1).isLt; omega⟩

theorem pay21_at (P : Vec Ideal S256x3328 .f32) (r : Fin 256) (l : Fin 512) :
    k0_pay21 (F := Ideal) P (ix2 r l) = P (ix2 r ⟨1024 + l.val, by omega⟩) := by pointwise [k0_pay21]
theorem pay22_at (P : Vec Ideal S256x3328 .f32) (r : Fin 256) (l : Fin 1792) :
    k0_pay22 (F := Ideal) P (ix2 r l) = P (ix2 r ⟨1536 + l.val, by omega⟩) := by pointwise [k0_pay22]

theorem arr7 : (dats m 0 c).arrAt 7 cfg0.N = vals m c := by
  refine (dats m 0 c).arrAt_eq_of_covers 7 _ (by decide +kernel) fun t hf y => ?_
  blk_simp
  rw [after0_7]
  idx_vars y
  unfold_out out0_7
  frame_out
  rw [pay21_at, block_proj]
  show vals m c (ix2 (row t y0) y1) = _
  generalize vals m c = X
  blk_point [idx t]

theorem arr8 : (dats m 0 c).arrAt 8 cfg0.N = rest m c := by
  refine (dats m 0 c).arrAt_eq_of_covers 8 _ (by decide +kernel) fun t hf y => ?_
  blk_simp
  rw [after0_8]
  idx_vars y
  unfold_out out0_8
  frame_out
  rw [pay22_at, block_proj]
  show rest m c (ix2 (row t y0) y1) = _
  generalize rest m c = X
  blk_point [idx t]
end Cert.InProjSIdeal.Rows
-- ==== Proof.InProjS.lean ====
module
public import proofs.«01_k».proof.Proof.InProjSRef
public import proofs.«01_k».proof.Proof.InProjSValue
public import proofs.«01_k».proof.Proof.Gen.InProjS.Frame
public import proofs.«01_k».proof.Defs
@[expose] public section
set_option maxRecDepth 16384
/-! The claims of the sample's input projection. -/
namespace Cert.Proof.InProjS
open Idealize.ShloMosaic Idealize.ShloMosaic.TcCoe Idealize.SL.Sem

/-- The kernel as lowered runs to its end and leaves its arguments unchanged. -/
theorem frame_bits : Cert.quiescent_InProjS := fun m ρ _ => Cert.InProjS.Gen.frame m ρ
/-- The kernel over the ideal floats runs to its end and leaves its arguments unchanged. -/
theorem frame_ideal : Cert.quiescent_InProjSIdeal := fun m ρ _ => Cert.InProjSIdeal.Gen.frame m ρ
/-- The reference runs to its end and leaves its arguments unchanged. -/
theorem frame_ref : Cert.quiescent_InProjSRefIdeal := fun m ρ _ =>
  (θ_run Cert.InProjSRefIdeal.defs _ _).mono (fun r h => ⟨fun c => (h c).2.2.2.2,
      Idealize.ShloMosaic.sem_eq_zero_of_no_sems (by decide) r.2⟩)
    (Cert.InProjSRefIdeal.Value.run (F := Ideal) m ρ)
/-- Nothing of the kernel was rewritten for the ideal floats. -/
theorem preserves : Cert.preserves_InProjS_InProjSIdeal := trivial

/-- The kernel's four arrays are the reference's four, over the ideal floats. -/
theorem algebraic : Cert.algebraic_InProjSIdeal_InProjSRefIdeal := by
  intro m ρ m' ρ' _ hag
  refine ⟨fun c => InProjSIdeal.Rows.rot m c 0 (by omega), fun c => InProjSIdeal.Rows.rot m c 512 (by omega),
    fun c => InProjSIdeal.Rows.vals m c, fun c => InProjSIdeal.Rows.rest m c, ?_, ?_⟩
  · exact (θ_run Cert.InProjSIdeal.defs _ _).mono
      (fun _ h c => ⟨(h c).1.trans (InProjSIdeal.Rows.arr5 m c), (h c).2.1.trans (InProjSIdeal.Rows.arr6 m c),
        (h c).2.2.1.trans (InProjSIdeal.Rows.arr7 m c), (h c).2.2.2.1.trans (InProjSIdeal.Rows.arr8 m c), (h c).2.2.2.2⟩)
      (Cert.InProjSIdeal.Value.run_blocks (F := Ideal) m ρ)
  · refine (θ_run Cert.InProjSRefIdeal.defs _ _).mono (fun _ h c => ?_)
      (Cert.InProjSRefIdeal.Value.run (F := Ideal) m' ρ')
    obtain ⟨h0, h1, h2, h3, h4⟩ := h c
    obtain ⟨a0, a1, a2⟩ := hag c
    refine ⟨h0.trans ?_, h1.trans ?_, h2.trans ?_, h3.trans ?_, h4⟩
    · rw [InProjSRefIdeal.Rows.res0_eq, a0, a1, a2]; rfl
    · rw [InProjSRefIdeal.Rows.res1_eq, a0, a1, a2]; rfl
    · refine (InProjSRefIdeal.Rows.res2_eq _ _ _).trans ?_
      rw [a0, a1, a2]; rfl
    · refine (InProjSRefIdeal.Rows.res3_eq _ _ _).trans ?_
      rw [a0, a1, a2]; rfl

end Cert.Proof.InProjS
-- ==== Proof.OutMath.lean ====
module
public import Idealize.ShloMosaic.Lib.Pointwise
@[expose] public section
/-! The layer's output projection on one row, over the ideal floats: what both the kernel and the reference are shown to
    compute for every row. -/
namespace Cert.OutMath
open Idealize.ShloMosaic

/-- Lane `d` of the 64-lane head that lane `l` lies in. -/
def lane (l : Fin 512) (d : Fin 64) : Fin 512 := ⟨64 * (l.val / 64) + d.val, by omega⟩

/-- The mean of a row over the head of lane `l`. -/
noncomputable def mu (y : Fin 512 → EReal) (l : Fin 512) : EReal := Ideal.div (∑ d, y (lane l d)) (Ideal.ofBits FTy.f32 0x42800000#32)

/-- A row less its head's mean. -/
noncomputable def cen (y : Fin 512 → EReal) (l : Fin 512) : EReal := y l - mu y l

/-- A row normalised head by head, scaled and shifted, with the bonus added, and gated. -/
noncomputable def gated (y lw lb bonus g : Fin 512 → EReal) (l : Fin 512) : EReal :=
  (cen y l * Ideal.rsqrt (mu (fun j => cen y j * cen y j) l + Ideal.ofBits FTy.f32 0x3A27C5AC#32) * lw l + lb l + bonus l) * g l

/-- The residual row: `x` and the two halves against the two halves of the projection. -/
noncomputable def hrow (x : Fin 1024 → EReal) (a b : Fin 512 → EReal) (w : Fin 1024 → Fin 1024 → EReal) (k : Fin 1024) : EReal :=
  x k + ((∑ j : Fin 512, a j * w ⟨j.val, by omega⟩ k) + ∑ j : Fin 512, b j * w ⟨512 + j.val, by omega⟩ k)

/-- A row, root-mean-square normalised and scaled. -/
noncomputable def norm (h g : Fin 1024 → EReal) (k : Fin 1024) : EReal :=
  h k * Ideal.rsqrt (Ideal.div (∑ i, h i * h i) (Ideal.ofBits FTy.f32 0x44800000#32) + Ideal.ofBits FTy.f32 0x358637BD#32) * g k

/-- The normalised row against one column. -/
noncomputable def query (h g : Fin 1024 → EReal) (w : Fin 1024 → Fin 2048 → EReal) (k : Fin 2048) : EReal := ∑ j, norm h g j * w j k

/-- A sixty-fourth times a number is the number divided by 64. -/
theorem mul_64th (x : EReal) : x * Ideal.ofBits FTy.f32 0x3C800000#32 = Ideal.div x (Ideal.ofBits FTy.f32 0x42800000#32) := by
  have h1 : Ideal.ofBits FTy.f32 0x3C800000#32 = (((1 / 64 : ℝ)) : EReal) := by
    simp [Ideal.ofBits, Ideal.ieee]; rw [← EReal.coe_mul]; congr 1; norm_num
  have h2 : Ideal.ofBits FTy.f32 0x42800000#32 = (((64 : ℝ)) : EReal) := by
    simp [Ideal.ofBits, Ideal.ieee]; rw [← EReal.coe_mul]; congr 1; norm_num
  rw [h1, h2]
  unfold Ideal.div
  rw [if_neg (by norm_num), ← EReal.coe_inv]
  congr 2
  norm_num

/-- A sum against the marks of one head is the sum over that head. -/
theorem head_sum (f s : Fin 512 → EReal) (l : Fin 512) (hs : ∀ j, s j = if j.val / 64 = l.val / 64 then 1 else 0) :
    ∑ j, f j * s j = ∑ d, f (lane l d) := by
  simp only [hs, mul_ite, mul_one, mul_zero]
  rw [← Finset.sum_filter]
  symm
  refine Finset.sum_bij (fun d _ => lane l d) (fun d _ => ?_) (fun d _ d' _ h => ?_) (fun j hj => ?_) (fun d _ => rfl)
  · rw [Finset.mem_filter]
    refine ⟨Finset.mem_univ _, ?_⟩
    simp only [lane]
    omega
  · have := congrArg Fin.val h
    simp only [lane] at this
    exact Fin.ext (by omega)
  · rw [Finset.mem_filter] at hj
    have hj' := hj.2
    refine ⟨⟨j.val - 64 * (l.val / 64), by omega⟩, Finset.mem_univ _, Fin.ext ?_⟩
    simp only [lane]
    omega

/-- A sum over two halves joined. -/
theorem two_halves (f : Fin 1024 → EReal) :
    ∑ j, f j = (∑ j : Fin 512, f ⟨j.val, by omega⟩) + ∑ j : Fin 512, f ⟨512 + j.val, by omega⟩ :=
  Fin.sum_univ_add (a := 512) (b := 512) f

section
variable (x : FVec Ideal ⟨2, ![16384, 1024]⟩ .f32) (oda y bonus g : FVec Ideal ⟨2, ![16384, 512]⟩ .f32)
  (lw lb : FVec Ideal ⟨2, ![1, 512]⟩ .f32) (w : FVec Ideal ⟨3, ![1, 1024, 1024]⟩ .f32)
  (fn : FVec Ideal ⟨2, ![1, 1024]⟩ .f32) (wq : FVec Ideal ⟨3, ![1, 1024, 2048]⟩ .f32)

/-- The gated row of row `r`. -/
noncomputable def gateRow (r : Fin 16384) : Fin 512 → EReal :=
  gated (fun j => y (ix2 r j)) (fun j => lw (ix2 0 j)) (fun j => lb (ix2 0 j)) (fun j => bonus (ix2 r j)) (fun j => g (ix2 r j))

/-- The residual row of row `r`. -/
noncomputable def resRow (r : Fin 16384) : Fin 1024 → EReal :=
  hrow (fun k => x (ix2 r k)) (fun j => oda (ix2 r j)) (gateRow y bonus g lw lb r) (fun j k => w (ix3 0 j k))

/-- The residual array. -/
noncomputable def outH : FVec Ideal ⟨2, ![16384, 1024]⟩ .f32 := fun i => resRow x oda y bonus g lw lb w (i 0) (i 1)

/-- The normalised array. -/
noncomputable def outN : FVec Ideal ⟨2, ![16384, 1024]⟩ .f32 := fun i =>
  norm (resRow x oda y bonus g lw lb w (i 0)) (fun j => fn (ix2 0 j)) (i 1)

/-- The array of queries. -/
noncomputable def outQ : FVec Ideal ⟨2, ![16384, 2048]⟩ .f32 := fun i =>
  query (resRow x oda y bonus g lw lb w (i 0)) (fun j => fn (ix2 0 j)) (fun j k => wq (ix3 0 j k)) (i 1)
end

end Cert.OutMath
-- ==== Proof.OutRef.lean ====
module
public import proofs.«01_k».proof.Proof.Gen.OutProjRefIdeal.Run
public import proofs.«01_k».proof.Proof.OutMath
@[expose] public section
namespace Cert.OutProjRefIdeal.Rows
open Cert.OutProjRefIdeal Cert.OutProjRefIdeal.Gen Idealize.ShloMosaic Idealize.ShloMosaic.TcCoe Idealize.SL.Sem
open Cert.OutMath
set_option maxRecDepth 16384
/-! The reference's output projection, stage by stage, and what each stage's array holds. -/

/-- The rows cut into heads. -/
noncomputable def heads (y : FVec Ideal S16384x512 .f32) : FVec Ideal S16384x8x64 .f32 := shapeCast _ y shapeCasts_S16384x512_S16384x8x64

/-- The mean over every head. -/
noncomputable def meanA (z : FVec Ideal S16384x8x64 .f32) : FVec Ideal S16384x8x1 .f32 :=
  Host.divf (broadcastInDim S16384x8x1 ![0, 1] bcast_S16384x8_S16384x8x1_0_1 (Host.reduceAdd z (constant S_ .f32 0x00000000#32) reducesTo_S16384x8x64_S16384x8_d2 h_S_)) (broadcastInDim S16384x8x1 ![] bcast_S_S16384x8x1 (constant S_ .f32 0x42800000#32))

/-- The heads less a number for each. -/
noncomputable def cenA (z : FVec Ideal S16384x8x64 .f32) (u : FVec Ideal S16384x8x1 .f32) : FVec Ideal S16384x8x64 .f32 :=
  subf z (broadcastInDim S16384x8x64 ![0, 1, 2] bcast_S16384x8x1_S16384x8x64_0_1_2 u)

/-- The heads over the root of their variance, as rows again. -/
noncomputable def normA (z : FVec Ideal S16384x8x64 .f32) (v : FVec Ideal S16384x8x1 .f32) : FVec Ideal S16384x512 .f32 :=
  shapeCast _ (mulf z (broadcastInDim S16384x8x64 ![0, 1, 2] bcast_S16384x8x1_S16384x8x64_0_1_2 (Host.rsqrt (addf v (broadcastInDim S16384x8x1 ![] bcast_S_S16384x8x1 (constant S_ .f32 0x3A27C5AC#32)))))) shapeCasts_S16384x8x64_S16384x512

/-- Scale, shift, bonus and gate. -/
noncomputable def gateA (n : FVec Ideal S16384x512 .f32) (lw lb : FVec Ideal S1x512 .f32) (bonus g : FVec Ideal S16384x512 .f32) : FVec Ideal S16384x512 .f32 :=
  mulf (addf (addf (mulf n (broadcastInDim S16384x512 ![0, 1] bcast_S1x512_S16384x512_0_1 (broadcastInDim S1x512 ![1] bcast_S512_S1x512_1 (shapeCast _ lw shapeCasts_S1x512_S512)))) (broadcastInDim S16384x512 ![0, 1] bcast_S1x512_S16384x512_0_1 (broadcastInDim S1x512 ![1] bcast_S512_S1x512_1 (shapeCast _ lb shapeCasts_S1x512_S512)))) bonus) g

/-- The residual. -/
noncomputable def resA (x : FVec Ideal S16384x1024 .f32) (a b : FVec Ideal S16384x512 .f32) (w : FVec Ideal S1x1024x1024 .f32) : FVec Ideal S16384x1024 .f32 :=
  addf x (Host.dotGeneral dot_S16384x1024_S1024x1024_S16384x1024_1_0_0_1_n_n none (concatenate S16384x1024 1 [⟨S16384x512, a⟩, ⟨S16384x512, b⟩] concatenates_S16384x512_S16384x512_S16384x1024_d1) (shapeCast _ w shapeCasts_S1x1024x1024_S1024x1024))

/-- The norm. -/
noncomputable def rmsA (h : FVec Ideal S16384x1024 .f32) (fn : FVec Ideal S1x1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ fn shapeCasts_S1x1024_S1024)))

/-- The queries. -/
noncomputable def queryA (n : FVec Ideal S16384x1024 .f32) (wq : FVec Ideal S1x1024x2048 .f32) : FVec Ideal S16384x2048 .f32 :=
  Host.dotGeneral dot_S16384x1024_S1024x2048_S16384x2048_1_0_0_1_n_n none n (shapeCast _ wq shapeCasts_S1x1024x2048_S1024x2048)

theorem heads_at (y : FVec Ideal S16384x512 .f32) (r : Fin 16384) (h : Fin 8) (d : Fin 64) :
    heads y (ix3 r h d) = y (ix2 r ⟨64 * h.val + d.val, by omega⟩) := by
  have e : (⟨64 * h.val + d.val, by omega⟩ : Fin 512) = ⟨h.val * 64 + d.val, by omega⟩ := Fin.ext (by simp only; omega)
  rw [e]
  pointwise [heads]
theorem meanA_at (z : FVec Ideal S16384x8x64 .f32) (r : Fin 16384) (h : Fin 8) :
    meanA z (ix3 r h 0) = Ideal.div (∑ d : Fin 64, z (ix3 r h d)) (Ideal.ofBits FTy.f32 0x42800000#32) := by
  pointwise [meanA]
theorem cenA_at (z : FVec Ideal S16384x8x64 .f32) (u : FVec Ideal S16384x8x1 .f32) (r : Fin 16384) (h : Fin 8) (d : Fin 64) :
    cenA z u (ix3 r h d) = z (ix3 r h d) - u (ix3 r h 0) := by
  pointwise [cenA]
theorem normA_at (z : FVec Ideal S16384x8x64 .f32) (v : FVec Ideal S16384x8x1 .f32) (r : Fin 16384) (l : Fin 512) :
    normA z v (ix2 r l) = z (ix3 r ⟨l.val / 64, by omega⟩ ⟨l.val % 64, by omega⟩)
      * Ideal.rsqrt (v (ix3 r ⟨l.val / 64, by omega⟩ 0) + Ideal.ofBits FTy.f32 0x3A27C5AC#32) := by
  pointwise [normA]
theorem gateA_at (n : FVec Ideal S16384x512 .f32) (lw lb : FVec Ideal S1x512 .f32) (bonus g : FVec Ideal S16384x512 .f32) (r : Fin 16384) (l : Fin 512) :
    gateA n lw lb bonus g (ix2 r l) = (n (ix2 r l) * lw (ix2 0 l) + lb (ix2 0 l) + bonus (ix2 r l)) * g (ix2 r l) := by
  pointwise [gateA]
theorem resA_at (x : FVec Ideal S16384x1024 .f32) (a b : FVec Ideal S16384x512 .f32) (w : FVec Ideal S1x1024x1024 .f32) (r : Fin 16384) (k : Fin 1024) :
    resA x a b w (ix2 r k) = hrow (fun k => x (ix2 r k)) (fun j => a (ix2 r j)) (fun j => b (ix2 r j)) (fun j k => w (ix3 0 j k)) k := by
  unfold hrow
  have e : ∑ j : Fin 1024, (if h : j.val < 512 then a (ix2 r ⟨j.val, h⟩) else b (ix2 r ⟨j.val - 512, by omega⟩)) * w (ix3 0 j k)
      = (∑ j : Fin 512, a (ix2 r j) * w (ix3 0 ⟨j.val, by omega⟩ k)) + ∑ j : Fin 512, b (ix2 r j) * w (ix3 0 ⟨512 + j.val, by omega⟩ k) := by
    rw [two_halves]
    congr 1
  rw [← e]
  pointwise [resA]
theorem rmsA_at (h : FVec Ideal S16384x1024 .f32) (fn : FVec Ideal S1x1024 .f32) (r : Fin 16384) (k : Fin 1024) :
    rmsA h fn (ix2 r k) = OutMath.norm (fun k => h (ix2 r k)) (fun j => fn (ix2 0 j)) k := by
  unfold OutMath.norm
  pointwise [rmsA]
theorem queryA_at (n : FVec Ideal S16384x1024 .f32) (wq : FVec Ideal S1x1024x2048 .f32) (r : Fin 16384) (k : Fin 2048) :
    queryA n wq (ix2 r k) = ∑ j : Fin 1024, n (ix2 r j) * wq (ix3 0 j k) := by
  pointwise [queryA]

/-- The normalised heads of the rows `y`. -/
noncomputable def gn (y : FVec Ideal S16384x512 .f32) : FVec Ideal S16384x512 .f32 :=
  normA (cenA (heads y) (meanA (heads y))) (meanA (mulf (cenA (heads y) (meanA (heads y))) (cenA (heads y) (meanA (heads y)))))

theorem cen_at (y : FVec Ideal S16384x512 .f32) (r : Fin 16384) (h : Fin 8) (d : Fin 64) (l : Fin 512) (hl : l.val = 64 * h.val + d.val) :
    cenA (heads y) (meanA (heads y)) (ix3 r h d) = cen (fun j => y (ix2 r j)) l := by
  rw [cenA_at, meanA_at, heads_at]
  simp only [heads_at]
  have e : (⟨64 * h.val + d.val, by omega⟩ : Fin 512) = l := Fin.ext hl.symm
  have e' : ∀ x : Fin 64, (⟨64 * h.val + x.val, by omega⟩ : Fin 512) = lane l x := fun x => Fin.ext (by simp only [lane]; omega)
  simp only [e, e']
  rfl

theorem gn_at (y : FVec Ideal S16384x512 .f32) (r : Fin 16384) (l : Fin 512) :
    gn y (ix2 r l) = cen (fun j => y (ix2 r j)) l
      * Ideal.rsqrt (mu (fun j => cen (fun j => y (ix2 r j)) j * cen (fun j => y (ix2 r j)) j) l + Ideal.ofBits FTy.f32 0x3A27C5AC#32) := by
  unfold gn
  rw [normA_at, meanA_at, cen_at y r ⟨l.val / 64, by omega⟩ ⟨l.val % 64, by omega⟩ l (by simp only; omega)]
  have e : ∀ d : Fin 64, (mulf (cenA (heads y) (meanA (heads y))) (cenA (heads y) (meanA (heads y))) : FVec Ideal S16384x8x64 .f32)
      (ix3 r ⟨l.val / 64, by omega⟩ d) = cen (fun j => y (ix2 r j)) (lane l d) * cen (fun j => y (ix2 r j)) (lane l d) := fun d => by
    rw [← cen_at y r ⟨l.val / 64, by omega⟩ d (lane l d) rfl]
    rfl
  simp only [e]
  rfl

section
variable (x : FVec Ideal S16384x1024 .f32) (oda y bonus g : FVec Ideal S16384x512 .f32) (lw lb : FVec Ideal S1x512 .f32)
  (w : FVec Ideal S1x1024x1024 .f32) (fn : FVec Ideal S1x1024 .f32) (wq : FVec Ideal S1x1024x2048 .f32)

/-- The reference's residual is the rows' residual. -/
theorem res_eq : resA x oda (gateA (gn y) lw lb bonus g) w = outH x oda y bonus g lw lb w := by
  funext i
  idx_vars i
  rw [resA_at]
  have e : (fun j => gateA (gn y) lw lb bonus g (ix2 i0 j)) = gateRow y bonus g lw lb i0 := by
    funext j
    rw [gateA_at, gn_at]
    rfl
  rw [e]
  rfl

/-- The reference's normalised residual. -/
theorem rms_eq : rmsA (resA x oda (gateA (gn y) lw lb bonus g) w) fn = outN x oda y bonus g lw lb w fn := by
  rw [res_eq]
  funext i
  idx_vars i
  rw [rmsA_at]
  rfl

/-- The reference's queries. -/
theorem query_eq : queryA (rmsA (resA x oda (gateA (gn y) lw lb bonus g) w) fn) wq = outQ x oda y bonus g lw lb w fn wq := by
  rw [rms_eq]
  funext i
  idx_vars i
  rw [queryA_at]
  rfl
end

end Cert.OutProjRefIdeal.Rows
-- ==== Proof.OutBlock.lean ====
module
public import proofs.«01_k».proof.Proof.Gen.OutProjIdeal.Frame
public import proofs.«01_k».proof.Proof.OutMath
public import Idealize.ShloMosaic.Lib.Pipeline.ValueKit
@[expose] public section
namespace Cert.OutProjIdeal.Block
open Cert.OutProjIdeal Cert.OutProjIdeal.Gen Idealize.ShloMosaic Idealize.ShloMosaic.TcCoe Idealize.SL.Sem
open Cert.OutMath
set_option maxRecDepth 16384
/-! The kernel's body on one block of rows, read entry by entry. -/

/-- The product with the heads' marks, times a sixty-fourth. -/
noncomputable def kmean (s : FVec Ideal S512x512 .f32) (z : FVec Ideal S256x512 .f32) : FVec Ideal S256x512 .f32 :=
  mulf (matmul dot_S256x512_S512x512_S256x512_1_0_0_1_n_n (some .fp32) z (shapeCast S512x512 s shapeCasts_S512x512_S512x512) (constant S256x512 .f32 0x00000000#32))
    (broadcast S256x512 (Scalar.ofBits .f32 0x3C800000#32))

theorem kmean_raw (s : Vec Ideal S512x512 .f32) (z : Vec Ideal S256x512 .f32) (r : Fin 256) (l : Fin 512) :
    kmean s z (ix2 r l) = (∑ j : Fin 512, z (ix2 r j) * s (ix2 j l)) * Ideal.ofBits FTy.f32 0x3C800000#32 := by
  pointwise [kmean]

theorem kmean_at (s : Vec Ideal S512x512 .f32) (z : Vec Ideal S256x512 .f32)
    (hs : ∀ j l : Fin 512, s (ix2 j l) = if j.val / 64 = l.val / 64 then (1 : EReal) else 0) (r : Fin 256) (l : Fin 512) :
    kmean s z (ix2 r l) = mu (fun j => z (ix2 r j)) l := by
  rw [kmean_raw, head_sum (fun j => z (ix2 r j)) (fun j => s (ix2 j l)) l (fun j => hs j l), mul_64th]
  rfl

/-- The body's tail of the group norm: from the centred rows and their variances. -/
noncomputable def tail (c v : FVec Ideal S256x512 .f32) (lw lb : Vec Ideal S1x512 .f32) (bonus g : Vec Ideal S256x512 .f32) : FVec Ideal S256x512 .bf16 :=
  truncf .bf16 (mulf (addf (addf (mulf (mulf c (rsqrt (addf v (broadcast S256x512 (Scalar.ofBits .f32 0x3A27C5AC#32)))))
    (broadcastTo S256x512 (shapeCast S1x512 lw shapeCasts_S1x512_S1x512) broadcasts_S1x512_S256x512))
    (broadcastTo S256x512 (shapeCast S1x512 lb shapeCasts_S1x512_S1x512) broadcasts_S1x512_S256x512)) bonus) g) bitsLt_bf16_f32

theorem tail_at (c v : FVec Ideal S256x512 .f32) (lw lb : Vec Ideal S1x512 .f32) (bonus g : Vec Ideal S256x512 .f32) (r : Fin 256) (l : Fin 512) :
    tail c v lw lb bonus g (ix2 r l) = (c (ix2 r l) * Ideal.rsqrt (v (ix2 r l) + Ideal.ofBits FTy.f32 0x3A27C5AC#32) * lw (ix2 0 l)
      + lb (ix2 0 l) + bonus (ix2 r l)) * g (ix2 r l) := by
  pointwise [tail]

/-- The gated rows of a block. -/
theorem pay5_at (s : Vec Ideal S512x512 .f32) (y : Vec Ideal S256x512 .f32) (lw lb : Vec Ideal S1x512 .f32) (bonus g : Vec Ideal S256x512 .f32)
    (hs : ∀ j l : Fin 512, s (ix2 j l) = if j.val / 64 = l.val / 64 then (1 : EReal) else 0) (r : Fin 256) (l : Fin 512) :
    k0_pay5 (F := Ideal) s y lw lb bonus g (ix2 r l)
      = gated (fun j => y (ix2 r j)) (fun j => lw (ix2 0 j)) (fun j => lb (ix2 0 j)) (fun j => bonus (ix2 r j)) (fun j => g (ix2 r j)) l := by
  have e : k0_pay5 (F := Ideal) s y lw lb bonus g
      = tail (subf y (kmean s y)) (kmean s (mulf (subf y (kmean s y)) (subf y (kmean s y)))) lw lb bonus g := rfl
  have ec : ∀ j : Fin 512, (subf y (kmean s y) : FVec Ideal S256x512 .f32) (ix2 r j) = cen (fun j => y (ix2 r j)) j := by
    intro j
    show y (ix2 r j) - kmean s y (ix2 r j) = _
    rw [kmean_at s y hs]
    rfl
  rw [e, tail_at, kmean_at _ _ hs, ec]
  have ev : (fun j => (mulf (subf y (kmean s y)) (subf y (kmean s y)) : FVec Ideal S256x512 .f32) (ix2 r j))
      = fun j => cen (fun j => y (ix2 r j)) j * cen (fun j => y (ix2 r j)) j := by
    funext j
    rw [← ec j]
    rfl
  rw [ev]
  rfl

theorem pay4_at (x : Vec Ideal S256x1024 .f32) (a : Vec Ideal S256x512 .f32) (w : Vec Ideal S512x1024 .bf16) (r : Fin 256) (k : Fin 1024) :
    k0_pay4 (F := Ideal) x a w (ix2 r k) = x (ix2 r k) + ∑ j : Fin 512, a (ix2 r j) * w (ix2 j k) := by
  pointwise [k0_pay4]

theorem pay1_at (h : FVec Ideal S256x1024 .f32) (b : FVec Ideal S256x512 .bf16) (w : Vec Ideal S512x1024 .bf16) (r : Fin 256) (k : Fin 1024) :
    k0_pay1 (F := Ideal) h b w (ix2 r k) = h (ix2 r k) + ∑ j : Fin 512, b (ix2 r j) * w (ix2 j k) := by
  pointwise [k0_pay1]

theorem pay2_at (h : FVec Ideal S256x1024 .f32) (b : FVec Ideal S256x512 .bf16) (w : Vec Ideal S512x1024 .bf16) (fn : Vec Ideal S1x1024 .f32) (r : Fin 256) (k : Fin 1024) :
    k0_pay2 (F := Ideal) h b w fn (ix2 r k) = OutMath.norm (fun k => k0_pay1 (F := Ideal) h b w (ix2 r k)) (fun j => fn (ix2 0 j)) k := by
  unfold OutMath.norm k0_pay2
  generalize k0_pay1 (F := Ideal) h b w = H
  pointwise []

theorem pay3_at (h : FVec Ideal S256x1024 .f32) (b : FVec Ideal S256x512 .bf16) (w : Vec Ideal S512x1024 .bf16) (fn : Vec Ideal S1x1024 .f32)
    (wq : Vec Ideal S1024x2048 .bf16) (r : Fin 256) (k : Fin 2048) :
    k0_pay3 (F := Ideal) h b w fn wq (ix2 r k)
      = query (fun k => k0_pay1 (F := Ideal) h b w (ix2 r k)) (fun j => fn (ix2 0 j)) (fun j k => wq (ix2 j k)) k := by
  unfold query
  simp only [← pay2_at]
  unfold k0_pay3
  generalize k0_pay2 (F := Ideal) h b w fn = H
  pointwise []

/-- The upper half of the projection, as loaded. -/
theorem ld4_at (w : Vec Ideal S1024x1024 .bf16) (j : Fin 512) (k : Fin 1024) :
    (View.ld w r0_4 : Vec Ideal S512x1024 .bf16) (ix2 j k) = w (ix2 ⟨j.val, by omega⟩ k) := by
  refine congrArg w (funext fun a => Fin.ext ?_)
  match a with
  | ⟨0, _⟩ => show 0 + 1 * j.val = j.val; omega
  | ⟨1, _⟩ => show 0 + 1 * k.val = k.val; omega

/-- The lower half of the projection, as loaded. -/
theorem ld5_at (w : Vec Ideal S1024x1024 .bf16) (j : Fin 512) (k : Fin 1024) :
    (View.ld w r0_5 : Vec Ideal S512x1024 .bf16) (ix2 j k) = w (ix2 ⟨512 + j.val, by omega⟩ k) := by
  refine congrArg w (funext fun a => Fin.ext ?_)
  match a with
  | ⟨0, _⟩ => show 512 + 1 * j.val = 512 + j.val; omega
  | ⟨1, _⟩ => show 0 + 1 * k.val = k.val; omega

/-- A block's residual row, of what its arrays hold. -/
theorem res_row (x : Vec Ideal S256x1024 .f32) (a : Vec Ideal S256x512 .f32) (b : FVec Ideal S256x512 .bf16) (w₁ w₂ : Vec Ideal S512x1024 .bf16) (r : Fin 256)
    (X : Fin 1024 → EReal) (A B : Fin 512 → EReal) (W : Fin 1024 → Fin 1024 → EReal) (hx : ∀ k, x (ix2 r k) = X k) (ha : ∀ j, a (ix2 r j) = A j)
    (hb : ∀ j, b (ix2 r j) = B j) (h₁ : ∀ (j : Fin 512) k, w₁ (ix2 j k) = W ⟨j.val, by omega⟩ k)
    (h₂ : ∀ (j : Fin 512) k, w₂ (ix2 j k) = W ⟨512 + j.val, by omega⟩ k) (k : Fin 1024) :
    k0_pay1 (F := Ideal) (k0_pay4 (F := Ideal) x a w₁) b w₂ (ix2 r k) = hrow X A B W k := by
  rw [pay1_at, pay4_at]
  simp only [h₁, h₂, hx, ha, hb]
  exact add_assoc (X k : EReal) _ _

end Cert.OutProjIdeal.Block
-- ==== Proof.OutValue.lean ====
module
public import proofs.«01_k».proof.Proof.OutBlock
@[expose] public section
namespace Cert.OutProjIdeal.Rows
open Cert.OutProjIdeal Cert.OutProjIdeal.Gen Idealize.ShloMosaic Idealize.ShloMosaic.TcCoe Idealize.SL.Sem
open Cert.OutMath
set_option maxRecDepth 16384
/-! What the kernel's launch is given and what its three output arrays hold at the end. -/

variable (m : (ℓ : Loc nD τ sig) → Buf (Elt Ideal) ℓ) (c : Dev nD)

/-- The host's number of the head each lane lies in. -/
def headN : S512.Idx → BitVec 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

theorem headN_at : ∀ l : Fin 512, headN (ix1 l) = BitVec.ofNat 32 (l.val / 64) := by
  decide +kernel

theorem seg_eq : V m c main_v7 = (uitofp (F := Ideal) .f32 (cmpi .eq
    (broadcastInDim S512x512 ![0, 1] bcast_S512x1_S512x512_0_1 (broadcastInDim S512x1 ![0] bcast_S512_S512x1_0 headN))
    (broadcastInDim S512x512 ![0, 1] bcast_S1x512_S512x512_0_1 (broadcastInDim S1x512 ![1] bcast_S512_S1x512_1 headN))) : FVec Ideal S512x512 .f32) := by
  unfold V
  after_results_simp
  rfl

theorem marks_at (h : S512.Idx → BitVec 32) (j l : Fin 512) :
    (uitofp (F := Ideal) .f32 (cmpi .eq
      (broadcastInDim S512x512 ![0, 1] bcast_S512x1_S512x512_0_1 (broadcastInDim S512x1 ![0] bcast_S512_S512x1_0 h))
      (broadcastInDim S512x512 ![0, 1] bcast_S1x512_S512x512_0_1 (broadcastInDim S1x512 ![1] bcast_S512_S1x512_1 h))) : FVec Ideal S512x512 .f32) (ix2 j l)
      = if h (ix1 j) = h (ix1 l) then (1 : EReal) else 0 := by
  pointwise
  by_cases e : h (ix1 j) = h (ix1 l)
  · rw [if_pos e, e]
    simp [IntOp.cmpi, FloatOps.uitofp]
  · rw [if_neg e]
    simp [IntOp.cmpi, FloatOps.uitofp, e]

theorem seg_at (j l : Fin 512) : (V m c main_v7 : FVec Ideal S512x512 .f32) (ix2 j l) = if j.val / 64 = l.val / 64 then (1 : EReal) else 0 := by
  rw [seg_eq, marks_at, headN_at, headN_at]
  congr 1
  refine propext ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem rowCast_at (g : FVec Ideal S1x512 .f32) (j : Fin 512) :
    shapeCast S1x512 (shapeCast S512 g shapeCasts_S1x512_S512) shapeCasts_S512_S1x512 (ix2 0 j) = g (ix2 0 j) := by pointwise

theorem fnCast_at (g : FVec Ideal S1x1024 .f32) (j : Fin 1024) :
    shapeCast S1x1024 (shapeCast S1024 g shapeCasts_S1x1024_S1024) shapeCasts_S1024_S1x1024 (ix2 0 j) = g (ix2 0 j) := by pointwise

theorem woCast_at (w : FVec Ideal S1x1024x1024 .f32) (j : Fin 1024) (k : Fin 1024) :
    (truncf (F := Ideal) .bf16 (shapeCast S1024x1024 w shapeCasts_S1x1024x1024_S1024x1024) bitsLt_bf16_f32 : FVec Ideal S1024x1024 .bf16) (ix2 j k)
      = w (ix3 0 j k) := by pointwise

theorem wqCast_at (w : FVec Ideal S1x1024x2048 .f32) (j : Fin 1024) (k : Fin 2048) :
    (truncf (F := Ideal) .bf16 (shapeCast S1024x2048 w shapeCasts_S1x1024x2048_S1024x2048) bitsLt_bf16_f32 : FVec Ideal S1024x2048 .bf16) (ix2 j k)
      = w (ix3 0 j k) := by pointwise

theorem lw_eq : V m c main_v9 = shapeCast S1x512 (shapeCast S512 (m ((c.tc : Thread nD τ).loc main_arg5) : FVec Ideal S1x512 .f32) shapeCasts_S1x512_S512) shapeCasts_S512_S1x512 := by
  unfold V
  simp only [hostOps0, hostOps0_1, hostOps0_2, List.flatten_cons, List.flatten_nil, List.append_nil, List.cons_append, List.nil_append]
  after_results_simp
  rfl
theorem lb_eq : V m c main_v11 = shapeCast S1x512 (shapeCast S512 (m ((c.tc : Thread nD τ).loc main_arg6) : FVec Ideal S1x512 .f32) shapeCasts_S1x512_S512) shapeCasts_S512_S1x512 := by
  unfold V
  simp only [hostOps0, hostOps0_1, hostOps0_2, List.flatten_cons, List.flatten_nil, List.append_nil, List.cons_append, List.nil_append]
  after_results_simp
  rfl
theorem wo_eq : V m c main_v13 = (truncf (F := Ideal) .bf16 (shapeCast S1024x1024 (m ((c.tc : Thread nD τ).loc main_arg7) : FVec Ideal S1x1024x1024 .f32) shapeCasts_S1x1024x1024_S1024x1024) bitsLt_bf16_f32 : FVec Ideal S1024x1024 .bf16) := by
  unfold V
  simp only [hostOps0, hostOps0_1, hostOps0_2, List.flatten_cons, List.flatten_nil, List.append_nil, List.cons_append, List.nil_append]
  after_results_simp
  rfl
theorem fn_eq : V m c main_v15 = shapeCast S1x1024 (shapeCast S1024 (m ((c.tc : Thread nD τ).loc main_arg8) : FVec Ideal S1x1024 .f32) shapeCasts_S1x1024_S1024) shapeCasts_S1024_S1x1024 := by
  unfold V
  simp only [hostOps0, hostOps0_1, hostOps0_2, List.flatten_cons, List.flatten_nil, List.append_nil, List.cons_append, List.nil_append]
  after_results_simp
  rfl
theorem wq_eq : V m c main_v17 = (truncf (F := Ideal) .bf16 (shapeCast S1024x2048 (m ((c.tc : Thread nD τ).loc main_arg9) : FVec Ideal S1x1024x2048 .f32) shapeCasts_S1x1024x2048_S1024x2048) bitsLt_bf16_f32 : FVec Ideal S1024x2048 .bf16) := by
  unfold V
  simp only [hostOps0, hostOps0_1, hostOps0_2, List.flatten_cons, List.flatten_nil, List.append_nil, List.cons_append, List.nil_append]
  after_results_simp
  rfl

theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0
    ∧ win0_10.index t 0 = 0 ∧ win0_10.index t 1 = 0 ∧ win0_11.index t 0 = t.val ∧ win0_11.index t 1 = 0
    ∧ win0_12.index t 0 = t.val ∧ win0_12.index t 1 = 0 ∧ win0_13.index t 0 = t.val ∧ win0_13.index t 1 = 0 := by
  decide +kernel

/-- Row `r` of the block at point `t`, among the array's rows. -/
abbrev row (t : Fin cfg0.N) (r : Fin 256) : Fin 16384 := ⟨256 * t.val + r.val, by have : t.val < 64 := t.isLt; omega⟩

theorem iblk0_at (t : Fin cfg0.N) (r : Fin 256) (j : Fin 1024) :
    (iblk m c 0 t : FVec Ideal S256x1024 .f32) (ix2 r j) = (V m c main_arg0 : FVec Ideal S16384x1024 .f32) (ix2 (row t r) j) := by
  blk_point [iblk, idx t]
theorem iblk1_at (t : Fin cfg0.N) (r : Fin 256) (j : Fin 512) :
    (iblk m c 1 t : FVec Ideal S256x512 .f32) (ix2 r j) = (V m c main_arg1 : FVec Ideal S16384x512 .f32) (ix2 (row t r) j) := by
  blk_point [iblk, idx t]
theorem iblk2_at (t : Fin cfg0.N) (r : Fin 256) (j : Fin 512) :
    (iblk m c 2 t : FVec Ideal S256x512 .f32) (ix2 r j) = (V m c main_arg2 : FVec Ideal S16384x512 .f32) (ix2 (row t r) j) := by
  blk_point [iblk, idx t]
theorem iblk3_at (t : Fin cfg0.N) (r : Fin 256) (j : Fin 512) :
    (iblk m c 3 t : FVec Ideal S256x512 .f32) (ix2 r j) = (V m c main_arg3 : FVec Ideal S16384x512 .f32) (ix2 (row t r) j) := by
  blk_point [iblk, idx t]
theorem iblk4_at (t : Fin cfg0.N) (r : Fin 256) (j : Fin 512) :
    (iblk m c 4 t : FVec Ideal S256x512 .f32) (ix2 r j) = (V m c main_arg4 : FVec Ideal S16384x512 .f32) (ix2 (row t r) j) := by
  blk_point [iblk, idx t]
theorem iblk5_at (t : Fin cfg0.N) (j : Fin 512) :
    (iblk m c 5 t : FVec Ideal S1x512 .f32) (ix2 0 j) = (V m c main_v9 : FVec Ideal S1x512 .f32) (ix2 0 j) := by
  blk_point [iblk, idx t]
theorem iblk6_at (t : Fin cfg0.N) (j : Fin 512) :
    (iblk m c 6 t : FVec Ideal S1x512 .f32) (ix2 0 j) = (V m c main_v11 : FVec Ideal S1x512 .f32) (ix2 0 j) := by
  blk_point [iblk, idx t]
theorem iblk7_at (t : Fin cfg0.N) (j l : Fin 512) :
    (iblk m c 7 t : FVec Ideal S512x512 .f32) (ix2 j l) = (V m c main_v7 : FVec Ideal S512x512 .f32) (ix2 j l) := by
  blk_point [iblk, idx t]
theorem iblk8_at (t : Fin cfg0.N) (j k : Fin 1024) :
    (iblk m c 8 t : FVec Ideal S1024x1024 .bf16) (ix2 j k) = (V m c main_v13 : FVec Ideal S1024x1024 .bf16) (ix2 j k) := by
  blk_point [iblk, idx t]
theorem iblk9_at (t : Fin cfg0.N) (j : Fin 1024) :
    (iblk m c 9 t : FVec Ideal S1x1024 .f32) (ix2 0 j) = (V m c main_v15 : FVec Ideal S1x1024 .f32) (ix2 0 j) := by
  blk_point [iblk, idx t]
theorem iblk10_at (t : Fin cfg0.N) (j : Fin 1024) (k : Fin 2048) :
    (iblk m c 10 t : FVec Ideal S1024x2048 .bf16) (ix2 j k) = (V m c main_v17 : FVec Ideal S1024x2048 .bf16) (ix2 j k) := by
  blk_point [iblk, idx t]

/-- The residual array, of the call's own arguments. -/
noncomputable def resArr : FVec Ideal S16384x1024 .f32 :=
  outH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The normalised array, of the call's own arguments. -/
noncomputable def normArr : FVec Ideal S16384x1024 .f32 := fun i =>
  OutMath.norm (fun k => resArr m c (ix2 (i 0) k)) (fun j => (m ((c.tc : Thread nD τ).loc main_arg8) : FVec Ideal S1x1024 .f32) (ix2 0 j)) (i 1)

/-- The queries' array, of the call's own arguments. -/
noncomputable def queryArr : FVec Ideal S16384x2048 .f32 := fun i =>
  query (fun k => resArr m c (ix2 (i 0) k)) (fun j => (m ((c.tc : Thread nD τ).loc main_arg8) : FVec Ideal S1x1024 .f32) (ix2 0 j))
    (fun j k => (m ((c.tc : Thread nD τ).loc main_arg9) : FVec Ideal S1x1024x2048 .f32) (ix3 0 j k)) (i 1)

/-- The gated rows of a point's block. -/
noncomputable def gate (t : Fin cfg0.N) : FVec Ideal S256x512 .bf16 :=
  k0_pay5 (F := Ideal) (iblk m c 7 t) (iblk m c 2 t) (iblk m c 5 t) (iblk m c 6 t) (iblk m c 3 t) (iblk m c 4 t)

/-- The part of the residual of a point's block that the attention rows give. -/
noncomputable def part (t : Fin cfg0.N) : FVec Ideal S256x1024 .f32 :=
  k0_pay4 (F := Ideal) (iblk m c 0 t) (iblk m c 1 t) (View.ld (iblk m c 8 t) r0_4)

theorem gate_at (t : Fin cfg0.N) (r : Fin 256) (l : Fin 512) :
    gate m c t (ix2 r l) = gateRow (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (row t r) l := by
  unfold gate gateRow
  rw [Block.pay5_at _ _ _ _ _ _ fun j l => (iblk7_at m c t j l).trans (seg_at m c j l)]
  have e2 : (fun j => (iblk m c 2 t : FVec Ideal S256x512 .f32) (ix2 r j)) = fun j => (m ((c.tc : Thread nD τ).loc main_arg2) : FVec Ideal S16384x512 .f32) (ix2 (row t r) j) :=
    funext fun j => (iblk2_at m c t r j).trans (congrFun (V_main_arg2 m c) _)
  have e3 : (fun j => (iblk m c 3 t : FVec Ideal S256x512 .f32) (ix2 r j)) = fun j => (m ((c.tc : Thread nD τ).loc main_arg3) : FVec Ideal S16384x512 .f32) (ix2 (row t r) j) :=
    funext fun j => (iblk3_at m c t r j).trans (congrFun (V_main_arg3 m c) _)
  have e4 : (fun j => (iblk m c 4 t : FVec Ideal S256x512 .f32) (ix2 r j)) = fun j => (m ((c.tc : Thread nD τ).loc main_arg4) : FVec Ideal S16384x512 .f32) (ix2 (row t r) j) :=
    funext fun j => (iblk4_at m c t r j).trans (congrFun (V_main_arg4 m c) _)
  have e5 : (fun j => (iblk m c 5 t : FVec Ideal S1x512 .f32) (ix2 0 j)) = fun j => (m ((c.tc : Thread nD τ).loc main_arg5) : FVec Ideal S1x512 .f32) (ix2 0 j) :=
    funext fun j => (iblk5_at m c t j).trans ((congrFun (lw_eq m c) _).trans (rowCast_at _ j))
  have e6 : (fun j => (iblk m c 6 t : FVec Ideal S1x512 .f32) (ix2 0 j)) = fun j => (m ((c.tc : Thread nD τ).loc main_arg6) : FVec Ideal S1x512 .f32) (ix2 0 j) :=
    funext fun j => (iblk6_at m c t j).trans ((congrFun (lb_eq m c) _).trans (rowCast_at _ j))
  exact congrFun (congr (congr (congr (congr (congrArg gated e2) e5) e6) e3) e4) l

theorem wo_at (t : Fin cfg0.N) (j k : Fin 1024) :
    (iblk m c 8 t : FVec Ideal S1024x1024 .bf16) (ix2 j k) = (m ((c.tc : Thread nD τ).loc main_arg7) : FVec Ideal S1x1024x1024 .f32) (ix3 0 j k) :=
  (iblk8_at m c t j k).trans ((congrFun (wo_eq m c) _).trans (woCast_at _ j k))

/-- A block's residual rows. -/
theorem res_at (t : Fin cfg0.N) (r : Fin 256) (k : Fin 1024) :
    k0_pay1 (F := Ideal) (part m c t) (gate m c t) (View.ld (iblk m c 8 t) r0_5) (ix2 r k) = resArr m c (ix2 (row t r) k) := by
  unfold part
  exact Block.res_row _ _ _ _ _ r _ _ _ (fun j k => (m ((c.tc : Thread nD τ).loc main_arg7) : FVec Ideal S1x1024x1024 .f32) (ix3 0 j k))
    (fun k => (iblk0_at m c t r k).trans (congrFun (V_main_arg0 m c) _))
    (fun j => (iblk1_at m c t r j).trans (congrFun (V_main_arg1 m c) _)) (fun j => gate_at m c t r j)
    (fun j k => (Block.ld4_at (iblk m c 8 t) j k).trans (wo_at m c t ⟨j.val, by omega⟩ k))
    (fun j k => (Block.ld5_at (iblk m c 8 t) j k).trans (wo_at m c t ⟨512 + j.val, by omega⟩ k)) k

theorem fn_at (t : Fin cfg0.N) : (fun j => (iblk m c 9 t : FVec Ideal S1x1024 .f32) (ix2 0 j))
    = fun j => (m ((c.tc : Thread nD τ).loc main_arg8) : FVec Ideal S1x1024 .f32) (ix2 0 j) :=
  funext fun j => (iblk9_at m c t j).trans ((congrFun (fn_eq m c) _).trans (fnCast_at _ j))

theorem wq_at (t : Fin cfg0.N) : (fun (j : Fin 1024) (k : Fin 2048) => (iblk m c 10 t : FVec Ideal S1024x2048 .bf16) (ix2 j k))
    = fun j k => (m ((c.tc : Thread nD τ).loc main_arg9) : FVec Ideal S1x1024x2048 .f32) (ix3 0 j k) :=
  funext fun j => funext fun k => (iblk10_at m c t j k).trans ((congrFun (wq_eq m c) _).trans (wqCast_at _ j k))

theorem nrm_at (t : Fin cfg0.N) (r : Fin 256) (k : Fin 1024) :
    k0_pay2 (F := Ideal) (part m c t) (gate m c t) (View.ld (iblk m c 8 t) r0_5) (iblk m c 9 t) (ix2 r k) = normArr m c (ix2 (row t r) k) := by
  rw [Block.pay2_at]
  exact congrFun (congr (congrArg OutMath.norm (funext fun k => res_at m c t r k)) (fn_at m c t)) k

theorem qry_at (t : Fin cfg0.N) (r : Fin 256) (k : Fin 2048) :
    k0_pay3 (F := Ideal) (part m c t) (gate m c t) (View.ld (iblk m c 8 t) r0_5) (iblk m c 9 t) (iblk m c 10 t) (ix2 r k) = queryArr m c (ix2 (row t r) k) := by
  rw [Block.pay3_at]
  exact congrFun (congr (congr (congrArg query (funext fun k => res_at m c t r k)) (fn_at m c t)) (wq_at m c t)) k

theorem arr11 : (dats m 0 c).arrAt 11 cfg0.N = resArr m c := by
  refine (dats m 0 c).arrAt_eq_of_covers 11 _ (by decide +kernel) fun t hf y => ?_
  blk_simp
  rw [after0_11]
  idx_vars y
  unfold_out out0_11
  frame_out
  refine (res_at m c t y0 y1).trans ?_
  generalize resArr m c = X
  blk_point [idx t]

theorem arr12 : (dats m 0 c).arrAt 12 cfg0.N = normArr m c := by
  refine (dats m 0 c).arrAt_eq_of_covers 12 _ (by decide +kernel) fun t hf y => ?_
  blk_simp
  rw [after0_12]
  idx_vars y
  unfold_out out0_12
  frame_out
  refine (nrm_at m c t y0 y1).trans ?_
  generalize normArr m c = X
  blk_point [idx t]

theorem arr13 : (dats m 0 c).arrAt 13 cfg0.N = queryArr m c := by
  refine (dats m 0 c).arrAt_eq_of_covers 13 _ (by decide +kernel) fun t hf y => ?_
  blk_simp
  rw [after0_13]
  idx_vars y
  unfold_out out0_13
  frame_out
  refine (qry_at m c t y0 y1).trans ?_
  generalize queryArr m c = X
  blk_point [idx t]

end Cert.OutProjIdeal.Rows
-- ==== Proof.OutProj.lean ====
module
public import proofs.«01_k».proof.Proof.Gen.OutProj.Frame
public import proofs.«01_k».proof.Proof.OutRef
public import proofs.«01_k».proof.Proof.OutValue
public import proofs.«01_k».proof.Defs
@[expose] public section
set_option maxRecDepth 16384
/-! The claims of the prompt's output projection. -/
namespace Cert.Proof.OutProj
open Idealize.ShloMosaic Idealize.ShloMosaic.TcCoe Idealize.SL.Sem

/-- The kernel as lowered runs to its end and leaves its arguments unchanged. -/
theorem frame_bits : Cert.quiescent_OutProj := fun m ρ _ => Cert.OutProj.Gen.frame m ρ
/-- The kernel over the ideal floats runs to its end and leaves its arguments unchanged. -/
theorem frame_ideal : Cert.quiescent_OutProjIdeal := fun m ρ _ => Cert.OutProjIdeal.Gen.frame m ρ
/-- The reference runs to its end and leaves its arguments unchanged. -/
theorem frame_ref : Cert.quiescent_OutProjRefIdeal := fun m ρ _ =>
  (θ_run Cert.OutProjRefIdeal.defs _ _).mono (fun r h => ⟨fun c => (h c).2.2.2,
      Idealize.ShloMosaic.sem_eq_zero_of_no_sems (by decide) r.2⟩)
    (Cert.OutProjRefIdeal.Value.run (F := Ideal) m ρ)
/-- Nothing of the kernel was rewritten for the ideal floats. -/
theorem preserves : Cert.preserves_OutProj_OutProjIdeal := trivial

/-- The kernel's three arrays are the reference's three, over the ideal floats. -/
theorem algebraic : Cert.algebraic_OutProjIdeal_OutProjRefIdeal := by
  intro m ρ m' ρ' _ hag
  refine ⟨fun c => OutProjIdeal.Rows.resArr m c, fun c => OutProjIdeal.Rows.normArr m c, fun c => OutProjIdeal.Rows.queryArr m c, ?_, ?_⟩
  · exact (θ_run Cert.OutProjIdeal.defs _ _).mono
      (fun _ h c => ⟨((h.1 c).1 11).trans (OutProjIdeal.Rows.arr11 m c), ((h.1 c).1 12).trans (OutProjIdeal.Rows.arr12 m c),
        ((h.1 c).1 13).trans (OutProjIdeal.Rows.arr13 m c), h.2.1 c⟩)
      (θ_run_and (Cert.OutProjIdeal.Gen.run_main m ρ) (Cert.OutProjIdeal.Gen.frame m ρ))
  · refine (θ_run Cert.OutProjRefIdeal.defs _ _).mono (fun _ h c => ?_)
      (Cert.OutProjRefIdeal.Value.run (F := Ideal) m' ρ')
    obtain ⟨h0, h1, h2, h3⟩ := h c
    obtain ⟨a0, a1, a2, a3, a4, a5, a6, a7, a8, a9⟩ := hag c
    refine ⟨h0.trans ?_, h1.trans ?_, h2.trans ?_, h3⟩
    · refine (OutProjRefIdeal.Rows.res_eq _ _ _ _ _ _ _ _).trans ?_
      rw [a0, a1, a2, a3, a4, a5, a6, a7]; rfl
    · refine (OutProjRefIdeal.Rows.rms_eq _ _ _ _ _ _ _ _ _).trans ?_
      rw [a0, a1, a2, a3, a4, a5, a6, a7, a8]; rfl
    · refine (OutProjRefIdeal.Rows.query_eq _ _ _ _ _ _ _ _ _ _).trans ?_
      rw [a0, a1, a2, a3, a4, a5, a6, a7, a8, a9]; rfl

end Cert.Proof.OutProj
-- ==== Proof.lean ====
module

public import proofs.«01_k».proof.Proof.AttnClaims
public import proofs.«01_k».proof.Proof.InProj
public import proofs.«01_k».proof.Proof.InProjS
public import proofs.«01_k».proof.Proof.OutProj

@[expose] public section

/-! Every claim of `Cert.Claim`, from the modules that prove them call by call. -/

namespace Cert.Proof

/-- The claims, in the order in which they are stated. -/
theorem claim : Cert.Claim :=
  ⟨Cert.Attn.Gen.facts, Cert.AttnIdeal.Gen.facts, Cert.AttnRefIdeal.Gen.facts,
    Cert.InProjP.Gen.facts, Cert.InProjPIdeal.Gen.facts, Cert.InProjPRefIdeal.Gen.facts,
    Cert.InProjS.Gen.facts, Cert.InProjSIdeal.Gen.facts, Cert.InProjSRefIdeal.Gen.facts,
    Cert.OutProj.Gen.facts, Cert.OutProjIdeal.Gen.facts, Cert.OutProjRefIdeal.Gen.facts,
    Cert.Pre_attn_finite.Gen.facts,
    Attn.frame_bits, Attn.frame_ideal, Attn.frame_ideal_pre, Attn.frame_ref, Attn.frame_ref_pre,
    InProjP.frame_bits, InProjP.frame_ideal, InProjP.frame_ref,
    InProjS.frame_bits, InProjS.frame_ideal, InProjS.frame_ref,
    OutProj.frame_bits, OutProj.frame_ideal, OutProj.frame_ref,
    Attn.preserves, Attn.algebraic, InProjP.preserves, InProjP.algebraic, InProjS.preserves, InProjS.algebraic,
    OutProj.preserves, OutProj.algebraic⟩

end Cert.Proof
